-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩
abbrev S2x512x1024 : Shape := ⟨3, ![2, 512, 1024]⟩
abbrev S512x1024 : Shape := ⟨2, ![512, 1024]⟩
abbrev S12 : Shape := ⟨1, ![12]⟩
abbrev S2 : Shape := ⟨1, ![2]⟩
abbrev S_ : Shape := ⟨0, ![]⟩
abbrev S1 : Shape := ⟨1, ![1]⟩
abbrev S1x512x1024 : Shape := ⟨3, ![1, 512, 1024]⟩

abbrev nBuf : Space → Nat
  | .hbm => 3
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .local _ .vmem, ⟨0, _⟩ => ⟨S2048x1024, .f32⟩
  | .local _ .vmem, ⟨1, _⟩ => ⟨S1024x2048, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S2x512x1024, .f32⟩
  | .local _ .vmem, ⟨7, _⟩ => ⟨S2x512x1024, .f32⟩
  | .local _ .vmem, ⟨8, _⟩ => ⟨S512x1024, .f32⟩
  | .local _ .vmem, ⟨9, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v11 : BitVec 32 := Scalar.xori v2 c1_i32_5
  let c1_i32_7 : BitVec 32 := 1#32
  let v14 : BitVec 32 := Scalar.muli v11 c1_i32_7
  let v15 : BitVec 32 := Scalar.addi c0_i32 v14
  v15.toNat
def k0_dev2 (d0 : Dev nD) : Nat :=
  let c0_i32_10 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v12 : BitVec 32 := Scalar.subi c3_i32 v2
  let c1_i32_9 : BitVec 32 := 1#32
  let v16 : BitVec 32 := Scalar.muli v12 c1_i32_9
  let v17 : BitVec 32 := Scalar.addi c0_i32_10 v16
  v17.toNat
def k0_off1 (d0 : Dev nD) : Fin 2 → Nat :=
  let c1_i32_12 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let v18 : BitVec 32 := Scalar.subi c1_i32_12 v5
  let c1024_i32 : BitVec 32 := 1024#32
  let v19 : BitVec 32 := Scalar.muli v18 c1024_i32
  let c1_i32_15 : BitVec 32 := 1#32
  let c1_i32_2 : BitVec 32 := 1#32
  let v6 : BitVec 32 := Scalar.shrui v2 c1_i32_2
  let c1_i32_3 : BitVec 32 := 1#32
  let v7 : BitVec 32 := Scalar.andi v6 c1_i32_3
  let v22 : BitVec 32 := Scalar.subi c1_i32_15 v7
  let c512_i32 : BitVec 32 := 512#32
  let v23 : BitVec 32 := Scalar.muli v22 c512_i32
  let v28 : BitVec 32 := Scalar.addi v19 v23
  let v29 : Index := Scalar.indexCast v28
  let c0 : Index := 0#32
  ![v29.toNat, 0]
def k0_off2 (d0 : Dev nD) : Fin 2 → Nat :=
  let c1_i32_15 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrui v2 c1_i32_2
  let c1_i32_3 : BitVec 32 := 1#32
  let v7 : BitVec 32 := Scalar.andi v6 c1_i32_3
  let v22 : BitVec 32 := Scalar.subi c1_i32_15 v7
  let c512_i32 : BitVec 32 := 512#32
  let v23 : BitVec 32 := Scalar.muli v22 c512_i32
  let v35 : Index := Scalar.indexCast v23
  let c0_22 : Index := 0#32
  ![v35.toNat, 0]
def k0_off3 (d0 : Dev nD) : Fin 2 → Nat :=
  let c1_i32_15 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrui v2 c1_i32_2
  let c1_i32_3 : BitVec 32 := 1#32
  let v7 : BitVec 32 := Scalar.andi v6 c1_i32_3
  let v22 : BitVec 32 := Scalar.subi c1_i32_15 v7
  let c512_i32 : BitVec 32 := 512#32
  let v23 : BitVec 32 := Scalar.muli v22 c512_i32
  let c0_i32_30 : BitVec 32 := 0#32
  ![v23.toNat, 0]
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v11 : BitVec 32 := Scalar.xori v2 c1_i32_5
  let c1_i32_26 : BitVec 32 := 1#32
  let v39 : BitVec 32 := Scalar.muli v11 c1_i32_26
  let v40 : BitVec 32 := Scalar.addi c0_i32_27 v39
  v40.toNat
def k0_off4 (d0 : Dev nD) : Fin 2 → Nat :=
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrui v2 c1_i32_2
  let c1_i32_3 : BitVec 32 := 1#32
  let v7 : BitVec 32 := Scalar.andi v6 c1_i32_3
  let v20 : BitVec 32 := Scalar.subi c1_i32_13 v7
  let c1024_i32_14 : BitVec 32 := 1024#32
  let v21 : BitVec 32 := Scalar.muli v20 c1024_i32_14
  let c1_i32_4 : BitVec 32 := 1#32
  let v8 : BitVec 32 := Scalar.andi v2 c1_i32_4
  let c512_i32_17 : BitVec 32 := 512#32
  let v25 : BitVec 32 := Scalar.muli v8 c512_i32_17
  let v48 : BitVec 32 := Scalar.addi v21 v25
  let v49 : Index := Scalar.indexCast v48
  let c0_31 : Index := 0#32
  ![v49.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.andi v2 c1_i32_4
  let c512_i32_17 : BitVec 32 := 512#32
  let v25 : BitVec 32 := Scalar.muli v8 c512_i32_17
  let v55 : Index := Scalar.indexCast v25
  let c0_34 : Index := 0#32
  ![v55.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.andi v2 c1_i32_4
  let c512_i32_17 : BitVec 32 := 512#32
  let v25 : BitVec 32 := Scalar.muli v8 c512_i32_17
  let c0_i32_42 : BitVec 32 := 0#32
  ![v25.toNat, 0]
def k0_dev4 (d0 : Dev nD) : Nat :=
  let c0_i32_39 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v12 : BitVec 32 := Scalar.subi c3_i32 v2
  let c1_i32_38 : BitVec 32 := 1#32
  let v59 : BitVec 32 := Scalar.muli v12 c1_i32_38
  let v60 : BitVec 32 := Scalar.addi c0_i32_39 v59
  v60.toNat
def k0_off7 (d0 : Dev nD) : Fin 2 → Nat :=
  let c1_i32_12 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let v18 : BitVec 32 := Scalar.subi c1_i32_12 v5
  let c1024_i32 : BitVec 32 := 1024#32
  let v19 : BitVec 32 := Scalar.muli v18 c1024_i32
  let c1_i32_2 : BitVec 32 := 1#32
  let v6 : BitVec 32 := Scalar.shrui v2 c1_i32_2
  let c1_i32_3 : BitVec 32 := 1#32
  let v7 : BitVec 32 := Scalar.andi v6 c1_i32_3
  let c512_i32_16 : BitVec 32 := 512#32
  let v24 : BitVec 32 := Scalar.muli v7 c512_i32_16
  let v68 : BitVec 32 := Scalar.addi v19 v24
  let v69 : Index := Scalar.indexCast v68
  let c0_43 : Index := 0#32
  ![v69.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrui v2 c1_i32_2
  let c1_i32_3 : BitVec 32 := 1#32
  let v7 : BitVec 32 := Scalar.andi v6 c1_i32_3
  let c512_i32_16 : BitVec 32 := 512#32
  let v24 : BitVec 32 := Scalar.muli v7 c512_i32_16
  let v75 : Index := Scalar.indexCast v24
  let c0_47 : Index := 0#32
  ![v75.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrui v2 c1_i32_2
  let c1_i32_3 : BitVec 32 := 1#32
  let v7 : BitVec 32 := Scalar.andi v6 c1_i32_3
  let c512_i32_16 : BitVec 32 := 512#32
  let v24 : BitVec 32 := Scalar.muli v7 c512_i32_16
  let c0_i32_55 : BitVec 32 := 0#32
  ![v24.toNat, 0]
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v11 : BitVec 32 := Scalar.xori v2 c1_i32_5
  let c1_i32_51 : BitVec 32 := 1#32
  let v79 : BitVec 32 := Scalar.muli v11 c1_i32_51
  let v80 : BitVec 32 := Scalar.addi c0_i32_52 v79
  v80.toNat
def k0_off10 (d0 : Dev nD) : Fin 2 → Nat :=
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrui v2 c1_i32_2
  let c1_i32_3 : BitVec 32 := 1#32
  let v7 : BitVec 32 := Scalar.andi v6 c1_i32_3
  let v20 : BitVec 32 := Scalar.subi c1_i32_13 v7
  let c1024_i32_14 : BitVec 32 := 1024#32
  let v21 : BitVec 32 := Scalar.muli v20 c1024_i32_14
  let c1_i32_18 : BitVec 32 := 1#32
  let c1_i32_4 : BitVec 32 := 1#32
  let v8 : BitVec 32 := Scalar.andi v2 c1_i32_4
  let v26 : BitVec 32 := Scalar.subi c1_i32_18 v8
  let c512_i32_19 : BitVec 32 := 512#32
  let v27 : BitVec 32 := Scalar.muli v26 c512_i32_19
  let v88 : BitVec 32 := Scalar.addi v21 v27
  let v89 : Index := Scalar.indexCast v88
  let c0_56 : Index := 0#32
  ![v89.toNat, 0]
def k0_off11 (d0 : Dev nD) : Fin 2 → Nat :=
  let c1_i32_18 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.andi v2 c1_i32_4
  let v26 : BitVec 32 := Scalar.subi c1_i32_18 v8
  let c512_i32_19 : BitVec 32 := 512#32
  let v27 : BitVec 32 := Scalar.muli v26 c512_i32_19
  let v95 : Index := Scalar.indexCast v27
  let c0_60 : Index := 0#32
  ![v95.toNat, 0]
def k0_off12 (d0 : Dev nD) : Fin 2 → Nat :=
  let c1_i32_18 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v8 : BitVec 32 := Scalar.andi v2 c1_i32_4
  let v26 : BitVec 32 := Scalar.subi c1_i32_18 v8
  let c512_i32_19 : BitVec 32 := 512#32
  let v27 : BitVec 32 := Scalar.muli v26 c512_i32_19
  let c0_i32_68 : BitVec 32 := 0#32
  ![v27.toNat, 0]
def k0_dev6 (d0 : Dev nD) : Nat :=
  let c0_i32_65 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v12 : BitVec 32 := Scalar.subi c3_i32 v2
  let c1_i32_64 : BitVec 32 := 1#32
  let v99 : BitVec 32 := Scalar.muli v12 c1_i32_64
  let v100 : BitVec 32 := Scalar.addi c0_i32_65 v99
  v100.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let c1024_i32_69 : BitVec 32 := 1024#32
  let v108 : BitVec 32 := Scalar.muli v5 c1024_i32_69
  let v110 : Index := Scalar.indexCast v108
  let c0_71 : Index := 0#32
  ![v110.toNat, 0]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrui v2 c1_i32_2
  let c1_i32_3 : BitVec 32 := 1#32
  let v7 : BitVec 32 := Scalar.andi v6 c1_i32_3
  let c1024_i32_70 : BitVec 32 := 1024#32
  let v109 : BitVec 32 := Scalar.muli v7 c1024_i32_70
  let v119 : Index := Scalar.indexCast v109
  let c0_77 : Index := 0#32
  ![v119.toNat, 0]
def k0_dev7 (d0 : Dev nD) : Nat :=
  let c0_i32_112 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v12 : BitVec 32 := Scalar.subi c3_i32 v2
  let c1_i32_111 : BitVec 32 := 1#32
  let v155 : BitVec 32 := Scalar.muli v12 c1_i32_111
  let v156 : BitVec 32 := Scalar.addi c0_i32_112 v155
  v156.toNat
def k0_dev8 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v11 : BitVec 32 := Scalar.xori v2 c1_i32_5
  let c1_i32_135 : BitVec 32 := 1#32
  let v183 : BitVec 32 := Scalar.muli v11 c1_i32_135
  let v184 : BitVec 32 := Scalar.addi c0_i32_136 v183
  v184.toNat
def k0_dev9 (d0 : Dev nD) : Nat :=
  let c0_i32_192 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v12 : BitVec 32 := Scalar.subi c3_i32 v2
  let c1_i32_191 : BitVec 32 := 1#32
  let v248 : BitVec 32 := Scalar.muli v12 c1_i32_191
  let v249 : BitVec 32 := Scalar.addi c0_i32_192 v248
  v249.toNat
def k0_dev10 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v11 : BitVec 32 := Scalar.xori v2 c1_i32_5
  let c1_i32_209 : BitVec 32 := 1#32
  let v272 : BitVec 32 := Scalar.muli v11 c1_i32_209
  let v273 : BitVec 32 := Scalar.addi c0_i32_210 v272
  v273.toNat
def k0_off15 (d0 : Dev nD) : Fin 2 → Nat :=
  let c2_i32 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let v9 : BitVec 32 := Scalar.muli c2_i32 v5
  let c1_i32_2 : BitVec 32 := 1#32
  let v6 : BitVec 32 := Scalar.shrui v2 c1_i32_2
  let c1_i32_3 : BitVec 32 := 1#32
  let v7 : BitVec 32 := Scalar.andi v6 c1_i32_3
  let v10 : BitVec 32 := Scalar.addi v9 v7
  let c512_i32_213 : BitVec 32 := 512#32
  let v280 : BitVec 32 := Scalar.muli v10 c512_i32_213
  let c0_i32_217 : BitVec 32 := 0#32
  ![v280.toNat, 0]
def k0_dev11 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v11 : BitVec 32 := Scalar.xori v2 c1_i32_5
  let c1_i32_215 : BitVec 32 := 1#32
  let v281 : BitVec 32 := Scalar.muli v11 c1_i32_215
  let v282 : BitVec 32 := Scalar.addi c0_i32_216 v281
  v282.toNat
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_219 : BitVec 32 := 512#32
  let v289 : BitVec 32 := Scalar.muli v2 c512_i32_219
  let c1024_i32_223 : BitVec 32 := 1024#32
  ![v289.toNat, 1024]
def k0_dev12 (d0 : Dev nD) : Nat :=
  let c0_i32_222 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v12 : BitVec 32 := Scalar.subi c3_i32 v2
  let c1_i32_221 : BitVec 32 := 1#32
  let v290 : BitVec 32 := Scalar.muli v12 c1_i32_221
  let v291 : BitVec 32 := Scalar.addi c0_i32_222 v290
  v291.toNat
def k0_off17 (d0 : Dev nD) : Fin 2 → Nat :=
  let c2_i32_225 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let v298 : BitVec 32 := Scalar.muli c2_i32_225 v5
  let c1_i32_226 : BitVec 32 := 1#32
  let v299 : BitVec 32 := Scalar.addi v298 c1_i32_226
  let c1_i32_2 : BitVec 32 := 1#32
  let v6 : BitVec 32 := Scalar.shrui v2 c1_i32_2
  let c1_i32_3 : BitVec 32 := 1#32
  let v7 : BitVec 32 := Scalar.andi v6 c1_i32_3
  let v300 : BitVec 32 := Scalar.subi v299 v7
  let c512_i32_227 : BitVec 32 := 512#32
  let v301 : BitVec 32 := Scalar.muli v300 c512_i32_227
  let c0_i32_245 : BitVec 32 := 0#32
  ![v301.toNat, 0]
def k0_dev13 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v11 : BitVec 32 := Scalar.xori v2 c1_i32_5
  let c1_i32_243 : BitVec 32 := 1#32
  let v316 : BitVec 32 := Scalar.muli v11 c1_i32_243
  let v317 : BitVec 32 := Scalar.addi c0_i32_244 v316
  v317.toNat
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.shrui v2 c1_i32_0
  let v4 : BitVec 32 := Scalar.xori v2 v3
  let c1_i32_1 : BitVec 32 := 1#32
  let v5 : BitVec 32 := Scalar.andi v4 c1_i32_1
  let c1024_i32_69 : BitVec 32 := 1024#32
  let v108 : BitVec 32 := Scalar.muli v5 c1024_i32_69
  let c0_i32_248 : BitVec 32 := 0#32
  ![v108.toNat, 0]
def k0_off19 (d0 : Dev nD) : Fin 2 → Nat :=
  let c2_i32_228 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrui v2 c1_i32_2
  let c1_i32_3 : BitVec 32 := 1#32
  let v7 : BitVec 32 := Scalar.andi v6 c1_i32_3
  let v302 : BitVec 32 := Scalar.muli c2_i32_228 v7
  let c1_i32_229 : BitVec 32 := 1#32
  let v303 : BitVec 32 := Scalar.addi v302 c1_i32_229
  let c1_i32_4 : BitVec 32 := 1#32
  let v8 : BitVec 32 := Scalar.andi v2 c1_i32_4
  let v304 : BitVec 32 := Scalar.subi v303 v8
  let c512_i32_230 : BitVec 32 := 512#32
  let v305 : BitVec 32 := Scalar.muli v304 c512_i32_230
  let c1024_i32_263 : BitVec 32 := 1024#32
  ![v305.toNat, 1024]
def k0_dev14 (d0 : Dev nD) : Nat :=
  let c0_i32_262 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v12 : BitVec 32 := Scalar.subi c3_i32 v2
  let c1_i32_261 : BitVec 32 := 1#32
  let v337 : BitVec 32 := Scalar.muli v12 c1_i32_261
  let v338 : BitVec 32 := Scalar.addi c0_i32_262 v337
  v338.toNat
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.shrui v2 c1_i32_2
  let c1_i32_3 : BitVec 32 := 1#32
  let v7 : BitVec 32 := Scalar.andi v6 c1_i32_3
  let c1024_i32_70 : BitVec 32 := 1024#32
  let v109 : BitVec 32 := Scalar.muli v7 c1024_i32_70
  let c1024_i32_266 : BitVec 32 := 1024#32
  ![v109.toNat, 1024]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x4096 : Shape := ⟨2, ![2048, 4096]⟩
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x2048, .f32⟩
  | .hbm, ⟨2, _⟩ => ⟨S2048x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/-
  Rules for one step of a kernel body, stated over memrefs owned at named contents (`owns`): a load, a store, a
  local copy, an addressed transfer and an addressed transfer whose source travels with the landing. Each is the
  library's points-to rule with the buffer contents bound. They mention no particular program.
-/
module

public import Idealize.ShloMosaic.Lib.Rounds
public import Idealize.ShloMosaic.Lib.MemrefSat
public import Idealize.ShloMosaic.Lib.Tactic

@[expose] public section

noncomputable section

namespace Cert.Steps

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix] {D : Type} [DecidableEq D]
variable {Val : EltTy → Type} {Name : Type} [DecidableEq Name]
variable {U : Type} [URA U] {Lvl : Type} {Λ : Labels}

local notation "𝕄" => MT nD τ sig Ix Val Name U Lvl

section Shape

variable (c : Thread nD τ) {sp : Space} {s s' : Shape} {e : EltTy}

/-- A rectangle's offsets may be named in any way that gives the same numbers. -/
theorem owns_off {m : Memref sig c.2.kind sp s e} {off off' sz : Fin s.rank → Nat} {inb inb'} {hr hr'} (h : off = off')
    (q : PosShare TreeShare) (X : (Rect.unit (s := s) off sz inb).shape.Idx → Val e) :
    (owns c (m.slice (Rect.unit off sz inb) hr) q X : sProp 𝕄) = owns c (m.slice (Rect.unit off' sz inb') hr') q X := by
  subst h; rfl

/-- Owning a squeezed memref is owning the memref at the contents renumbered. -/
theorem owns_squeeze {m : Memref sig c.2.kind sp s e} (h : s.Squeezes s') (q : PosShare TreeShare) (X : s'.Idx → Val e) :
    (owns c (m.squeeze s' h) q X : sProp 𝕄) ⊢ owns c m q (fun i => X ((Shape.reshapeEquiv h.numel_eq).symm i)) := by
  unfold owns
  iintro ⟨%f, %hf, H⟩
  iexists f
  isplitr
  · ipureintro
    funext i
    rw [← hf]
    show _ = _
    simp only [Memref.view_squeeze, View.read, View.emb_reshape, Function.Embedding.trans_apply, Equiv.coe_toEmbedding, Equiv.apply_symm_apply]
  · simp only [Memref.view_squeeze, View.set_reshape]; iexact H

/-- The same read the other way, the contents not named. -/
theorem owns_unsqueeze {m : Memref sig c.2.kind sp s e} (h : s.Squeezes s') (q : PosShare TreeShare) (X : s.Idx → Val e) :
    (owns c m q X : sProp 𝕄) ⊢ owns c (m.squeeze s' h) q (fun i => X (Shape.reshapeEquiv h.numel_eq i)) := by
  unfold owns
  iintro ⟨%f, %hf, H⟩
  iexists f
  isplitr
  · ipureintro
    funext i
    rw [← hf]
    simp only [Memref.view_squeeze, View.read, View.emb_reshape, Function.Embedding.trans_apply, Equiv.coe_toEmbedding]
  · simp only [Memref.view_squeeze, View.set_reshape]; iexact H

end Shape

section Rules

variable [Preorder Lvl] {defs : Defs nD τ sig Val Λ} (𝒱 : Variants)
variable (E : Emb (URounds (GSem nD τ sig) D) (MT nD τ sig Ix Val Name U Lvl)) (Rd : Schedule (GSem nD τ sig) D (MT nD τ sig Ix Val Name U Lvl))
variable (c : Thread nD τ) (bd : Option 𝒱.V) {Γ : PendingWaitsCtx sig Ix}
variable {α : Type} {Q : α → sProp (MT nD τ sig Ix Val Name U Lvl)}
variable {sp sp' : Space} {s : Shape} {e : EltTy}

/-- A load of exactly the rectangle that is owned. -/
theorem load_slice {cs : CoreSpace} {m : Memref sig c.2.kind cs s e} {off off' sz : Fin s.rank → Nat} {inb inb'} (h : off = off') {hr}
    {hl : m.view.LoadsAt (Rect.unit off sz inb).toLoadRect}
    {k : ((Rect.unit (s := s) off sz inb).toLoadRect.shape.Idx → Val e) → Prog (TpuEff nD τ sig Val Λ c.2) α}
    {q : PosShare TreeShare} {X : (Rect.unit (s := s) off' sz inb').shape.Idx → Val e} {Es : Set Name} :
    (owns c (m.slice (Rect.unit off' sz inb') hr) q X : sProp 𝕄)
      ⊢ iprop(((owns c (m.slice (Rect.unit off' sz inb') hr) q X : sProp 𝕄) -∗ wp frame (wpE' defs 𝒱 c bd Γ) Es (k X) Q)
        -∗ wp frame (wpE' defs 𝒱 c bd Γ) Es (.op (.load m (Rect.unit off sz inb).toLoadRect hl) k) Q) := by
  subst h
  unfold owns
  iintro ⟨%f, %hf, H⟩ Hk
  iapply (wp_load_rect 𝒱 c bd Es (m := m) (r := Rect.unit off sz inb) (S := (m.slice (Rect.unit off sz inb) hr).view.set) subset_rfl) $$ H
  iintro H
  have hX : (m.access (Rect.unit off sz inb)).read Val f = X := hf
  rw [hX]
  iapply Hk
  iexists f
  isplitr; · ipureintro; exact hf
  iexact H

/-- A load of a rectangle of a memref that is owned whole. -/
theorem load_of {cs : CoreSpace} {m : Memref sig c.2.kind cs s e} {r : Rect s} {hl : m.view.LoadsAt r.toLoadRect}
    {k : (r.toLoadRect.shape.Idx → Val e) → Prog (TpuEff nD τ sig Val Λ c.2) α}
    {q : PosShare TreeShare} {X : s.Idx → Val e} {Es : Set Name} :
    (owns c m q X : sProp 𝕄)
      ⊢ iprop(((owns c m q X : sProp 𝕄) -∗ wp frame (wpE' defs 𝒱 c bd Γ) Es (k (fun j => X (r.emb j))) Q)
        -∗ wp frame (wpE' defs 𝒱 c bd Γ) Es (.op (.load m r.toLoadRect hl) k) Q) := by
  unfold owns
  iintro ⟨%f, %hf, H⟩ Hk
  iapply (wp_load_rect 𝒱 c bd Es (m := m) (r := r) (S := m.view.set) (View.set_slice_subset _ _)) $$ H
  iintro H
  have hX : (m.access r).read Val f = fun j => X (r.emb j) := by
    funext j; rw [← hf]; rfl
  rw [hX]
  iapply Hk
  iexists f
  isplitr; · ipureintro; exact hf
  iexact H

/-- A store over exactly the rectangle that is owned. -/
theorem store_slice {cs : CoreSpace} {m : Memref sig c.2.kind cs s e} {off off' sz : Fin s.rank → Nat} {inb inb'} (h : off = off') {hr}
    {w : (Rect.unit (s := s) off sz inb).shape.Idx → Val e} {hx : (m.access (Rect.unit off sz inb)).Stores Finset.univ} {hm}
    {k : PUnit → Prog (TpuEff nD τ sig Val Λ c.2) α} {X : (Rect.unit (s := s) off' sz inb').shape.Idx → Val e} {Es : Set Name} :
    (owns c (m.slice (Rect.unit off' sz inb') hr) fullShare X : sProp 𝕄)
      ⊢ iprop(((owns c (m.slice (Rect.unit off' sz inb') hr) fullShare w : sProp 𝕄) -∗ wp frame (wpE' defs 𝒱 c bd Γ) Es (k ⟨⟩) Q)
        -∗ wp frame (wpE' defs 𝒱 c bd Γ) Es (.op (.store m (Rect.unit off sz inb) w Finset.univ hx hm) k) Q) := by
  subst h
  unfold owns
  iintro ⟨%f, %hf, H⟩ Hk
  iapply (wp_store 𝒱 c bd Es (m := m) (r := Rect.unit off sz inb) (Mk := Finset.univ) (S := (m.slice (Rect.unit off sz inb) hr).view.set)
    subset_rfl) $$ H
  iintro H
  iapply Hk
  iexists _
  isplitr
  swap
  · iexact H
  · ipureintro; exact View.read_write_univ _ _

/-- A load of the whole of an owned memref. -/
theorem load_full {cs : CoreSpace} {m : Memref sig c.2.kind cs s e} {off : Fin s.rank → Nat} (h : off = fun _ => 0) {inb : ∀ a, off a + s.size a ≤ s.size a}
    {hl : m.view.LoadsAt (Rect.unit off s.size inb).toLoadRect}
    {k : ((Rect.unit (s := s) off s.size inb).toLoadRect.shape.Idx → Val e) → Prog (TpuEff nD τ sig Val Λ c.2) α}
    {q : PosShare TreeShare} {X : s.Idx → Val e} {Es : Set Name} :
    (owns c m q X : sProp 𝕄)
      ⊢ iprop(((owns c m q X : sProp 𝕄) -∗ wp frame (wpE' defs 𝒱 c bd Γ) Es (k X) Q)
        -∗ wp frame (wpE' defs 𝒱 c bd Γ) Es (.op (.load m (Rect.unit off s.size inb).toLoadRect hl) k) Q) := by
  subst h
  have e : (fun j => X ((Rect.unit (s := s) (fun _ => 0) s.size inb).emb j)) = X := by
    funext x; show X ((Rect.whole s).emb x) = X x; rw [Rect.emb_whole_apply]
  iintro H Hk
  iapply (load_of 𝒱 c bd (m := m) (r := Rect.unit (fun _ => 0) s.size inb) (hl := hl) (k := k)) $$ H
  iintro H
  rw [e]
  iapply Hk
  iexact H

/-- A store over the whole of an owned memref. -/
theorem store_full {cs : CoreSpace} {m : Memref sig c.2.kind cs s e} {off : Fin s.rank → Nat} (h : off = fun _ => 0) {inb : ∀ a, off a + s.size a ≤ s.size a}
    {w : (Rect.unit (s := s) off s.size inb).shape.Idx → Val e} {hx : (m.access (Rect.unit off s.size inb)).Stores Finset.univ} {hm}
    {k : PUnit → Prog (TpuEff nD τ sig Val Λ c.2) α} {X : s.Idx → Val e} {Es : Set Name} :
    (owns c m fullShare X : sProp 𝕄)
      ⊢ iprop(((owns c m fullShare w : sProp 𝕄) -∗ wp frame (wpE' defs 𝒱 c bd Γ) Es (k ⟨⟩) Q)
        -∗ wp frame (wpE' defs 𝒱 c bd Γ) Es (.op (.store m (Rect.unit off s.size inb) w Finset.univ hx hm) k) Q) := by
  subst h
  unfold owns
  iintro ⟨%f, %hf, H⟩ Hk
  iapply (wp_store 𝒱 c bd Es (m := m) (r := Rect.unit (fun _ => 0) s.size inb) (Mk := Finset.univ) (S := m.view.set) (View.set_slice_subset _ _)) $$ H
  iintro H
  iapply Hk
  iexists _
  isplitr
  swap
  · iexact H
  · ipureintro
    have e := View.read_write_univ (v := m.access (Rect.unit (s := s) (fun _ => 0) s.size inb)) f w
    funext x
    refine Eq.trans ?_ (congrFun e x)
    show _ = _
    simp only [View.read]
    refine congrArg _ (congrArg _ ?_)
    show m.view.emb x = m.view.emb ((Rect.whole s).emb x)
    rw [Rect.emb_whole_apply]

/-- An addressed transfer between owned memrefs: the source share goes to the send cell's payload, the destination,
    holding what the source held, to the receive cell's. -/
theorem send {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X : s.Idx → Val e} {d₁ d₂ : D} {κ₁ κ₂ : Name}
    (hd₁ : d₁ ∈ Rd.duties (c, sS) 0) (hd₂ : d₂ ∈ Rd.duties (c', sem) 0)
    (ι : Ix) (N : ℕ) (hN : dst.view.amount sem = N)
    (hk₁ : Rd.amount (c, sS) 0 d₁ = N) (hk₂ : Rd.amount (c', sem) 0 d₂ = N)
    {O₀ : CellTallies nD τ sig Ix} (O : CellTallies nD τ sig Ix) (hO : O₀ = O + tallyAt (c', sem) ι N) {W : Waits sig Ix}
    (hpay₁ : (owns c src q X : sProp 𝕄) ⊢ Rd.payload (c, sS) 0 d₁)
    (hpay₂ : (owns c' dst fullShare X : sProp 𝕄) ⊢ Rd.payload (c', sem) 0 d₂) {Es : Set Name} (hr : τ.routes c c' = true := by routes) :
    (iprop(cellInv E Rd κ₁ (c, sS) ∗ cellInv E Rd κ₂ (c', sem)
        ∗ owns c src q X ∗ (∃ Y, (owns c' dst fullShare Y : sProp 𝕄))
        ∗ owes c O₀ W
        ∗ dutyTok E (c, sS) 0 d₁ ∗ reached E (c, sS) 0
        ∗ dutyTok E (c', sem) 0 d₂ ∗ reached E (c', sem) 0) : sProp 𝕄)
      ⊢ iprop(((cred (tallyAt (c, sS) ι N) ∗ owes c O W) -∗ wp frame (wpE' defs 𝒱 c bd Γ) Es (k ⟨⟩) Q)
          -∗ wp frame (wpE' defs 𝒱 c bd Γ) Es (.op (.enqueueDma src (.remote c' dst sS hsc) sem hsrc hdst hsem) k) Q) := by
  unfold owns at *
  iintro ⟨H1, H2, ⟨%fs, %hfs, Hs⟩, ⟨%Y, %fd, -, Hd⟩, HO, H3, H4, H5, H6⟩ Hk
  subst hfs
  iapply (wp_send_pointsTo 𝒱 E Rd c bd (fs := fs) (fd := fd) (q := q) (src := src) (dst := dst) (κ₁ := κ₁) (κ₂ := κ₂) hd₁ hd₂ ι ι N hN hk₁ hk₂ O hO (W := W)
    ((show _ ⊢ _ from by iintro H; iexists fs; isplitr; · (ipureintro; rfl)
                         iexact H).trans hpay₁)
    ((show _ ⊢ _ from by iintro H; iexists _; isplitr; swap; iexact H
                         ipureintro; exact View.read_write_univ _ _).trans hpay₂) hr) $$ [H1 H2 Hs Hd HO H3 H4 H5 H6]
  · isplitl [H1]; · iexact H1
    isplitl [H2]; · iexact H2
    isplitl [Hs]; · iexact Hs
    isplitl [Hd]; · iexact Hd
    isplitl [HO]; · iexact HO
    isplitl [H3]; · iexact H3
    isplitl [H4]; · iexact H4
    isplitl [H5] <;> iassumption
  iexact Hk

/-- The same where the source share travels with the landing to the target's owner. -/
theorem send_landing {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X : s.Idx → Val e} {d₁ d₂ : D} {κ₁ κ₂ : Name}
    (hd₁ : d₁ ∈ Rd.duties (c, sS) 0) (hd₂ : d₂ ∈ Rd.duties (c', sem) 0)
    (ι : Ix) (N : ℕ) (hN : dst.view.amount sem = N)
    (hk₁ : Rd.amount (c, sS) 0 d₁ = N) (hk₂ : Rd.amount (c', sem) 0 d₂ = N)
    {O₀ : CellTallies nD τ sig Ix} (O : CellTallies nD τ sig Ix) (hO : O₀ = O + tallyAt (c', sem) ι N) {W : Waits sig Ix}
    (hpay₁ : (emp : sProp 𝕄) ⊢ Rd.payload (c, sS) 0 d₁)
    (hpay₂ : (iprop(owns c' dst fullShare X ∗ owns c src q X) : sProp 𝕄) ⊢ Rd.payload (c', sem) 0 d₂) {Es : Set Name} (hr : τ.routes c c' = true := by routes) :
    (iprop(cellInv E Rd κ₁ (c, sS) ∗ cellInv E Rd κ₂ (c', sem)
        ∗ owns c src q X ∗ (∃ Y, (owns c' dst fullShare Y : sProp 𝕄))
        ∗ owes c O₀ W
        ∗ dutyTok E (c, sS) 0 d₁ ∗ reached E (c, sS) 0
        ∗ dutyTok E (c', sem) 0 d₂ ∗ reached E (c', sem) 0) : sProp 𝕄)
      ⊢ iprop(((cred (tallyAt (c, sS) ι N) ∗ owes c O W) -∗ wp frame (wpE' defs 𝒱 c bd Γ) Es (k ⟨⟩) Q)
          -∗ wp frame (wpE' defs 𝒱 c bd Γ) Es (.op (.enqueueDma src (.remote c' dst sS hsc) sem hsrc hdst hsem) k) Q) := by
  unfold owns at *
  iintro ⟨H1, H2, ⟨%fs, %hfs, Hs⟩, ⟨%Y, %fd, -, Hd⟩, HO, H3, H4, H5, H6⟩ Hk
  subst hfs
  iapply (wp_send_landing_pointsTo 𝒱 E Rd c bd (fs := fs) (fd := fd) (q := q) (src := src) (dst := dst) (κ₁ := κ₁) (κ₂ := κ₂) hd₁ hd₂ ι ι N hN hk₁ hk₂ O hO (W := W)
    hpay₁
    ((show _ ⊢ _ from by
        iintro ⟨Ha, Hb⟩
        isplitl [Ha]
        · iexists _; isplitr; swap; iexact Ha
          ipureintro; exact View.read_write_univ _ _
        · iexists fs; isplitr; · (ipureintro; rfl)
          iexact Hb).trans hpay₂) hr) $$ [H1 H2 Hs Hd HO H3 H4 H5 H6]
  · isplitl [H1]; · iexact H1
    isplitl [H2]; · iexact H2
    isplitl [Hs]; · iexact Hs
    isplitl [Hd]; · iexact Hd
    isplitl [HO]; · iexact HO
    isplitl [H3]; · iexact H3
    isplitl [H4]; · iexact H4
    isplitl [H5] <;> iassumption
  iexact Hk

/-- A local copy between owned memrefs. -/
theorem copy {src : Memref sig c.2.kind sp s e} {dst : Memref sig c.2.kind sp' s e} {sem : SemLoc sig}
    {hsrc : src.view.WordExact} {hdst : dst.view.WordExact} {hsem : DmaTarget.Typed (nD := nD) sp sem (.here dst)}
    {k : PUnit → Prog (TpuEff nD τ sig Val Λ c.2) α} {q : PosShare TreeShare} {X : s.Idx → Val e} {d : D} {κ : Name}
    (hd : d ∈ Rd.duties (c, sem) 0) (ι : Ix) (N : ℕ) (hN : dst.view.amount sem = N) (hk : Rd.amount (c, sem) 0 d = N)
    (hpay : (iprop(owns c dst fullShare X ∗ owns c src q X) : sProp 𝕄) ⊢ Rd.payload (c, sem) 0 d) {Es : Set Name} :
    (iprop(cellInv E Rd κ (c, sem) ∗ owns c src q X ∗ (∃ Y, (owns c dst fullShare Y : sProp 𝕄))
        ∗ dutyTok E (c, sem) 0 d ∗ reached E (c, sem) 0) : sProp 𝕄)
      ⊢ iprop((cred (tallyAt (c, sem) ι N) -∗ wp frame (wpE' defs 𝒱 c bd Γ) Es (k ⟨⟩) Q)
          -∗ wp frame (wpE' defs 𝒱 c bd Γ) Es (.op (.enqueueDma src (.here dst) sem hsrc hdst hsem) k) Q) := by
  unfold owns at *
  iintro ⟨H1, ⟨%fs, %hfs, Hs⟩, ⟨%Y, %fd, -, Hd⟩, H3, H4⟩ Hk
  subst hfs
  iapply (wp_copy_pointsTo 𝒱 E Rd c bd (fs := fs) (fd := fd) (q := q) (src := src) (dst := dst) (κ := κ) hd ι N hN hk
    ((show _ ⊢ _ from by
        iintro ⟨Ha, Hb⟩
        isplitl [Ha]
        · iexists _; isplitr; swap; iexact Ha
          ipureintro; exact View.read_write_univ _ _
        · iexists fs; isplitr; · (ipureintro; rfl)
          iexact Hb).trans hpay)) $$ [H1 Hs Hd H3 H4]
  · isplitl [H1]; · iexact H1
    isplitl [Hs]; · iexact Hs
    isplitl [Hd]; · iexact Hd
    isplitl [H3] <;> iassumption
  iexact Hk

end Rules

end Cert.Steps

end
-- ==== Proof.Parts.lean ====
/-
  Cutting an owned memref into slices and joining slices again, and reading an owned memref's contents off the machine's
  memory. They mention no particular program.
-/
module

public import Idealize.ShloMosaic.Lib.Rounds
public import Idealize.ShloMosaic.Lib.MemrefSat
public import Idealize.ShloMosaic.Lib.Pipeline.Kit
public import Idealize.ShloMosaic.Lib.Tactic

@[expose] public section

noncomputable section

namespace Cert.Steps

open Idealize.ShloMosaic
open Idealize.ShloMosaic.Rounds
open Idealize.SL Idealize.SL.RA Idealize.SL.BI
open scoped Idealize.SL.BI
open Idealize.SL.BI.BIBase Idealize.SL.BI.Laws Idealize.SL.ProofMode Idealize.SL.Sem

/-- Unit-stride rectangles that some axis separates share no element. -/
theorem unit_disjoint {s : Shape} {off sz off' sz' : Fin s.rank → Nat} {inb inb'}
    (h : ∃ a, off a + sz a ≤ off' a ∨ off' a + sz' a ≤ off a) :
    Disjoint (Rect.unit (s := s) off sz inb).set (Rect.unit (s := s) off' sz' inb').set := by
  obtain ⟨a, ha⟩ := h
  rw [Finset.disjoint_left]
  intro x hx hx'
  rw [Rect.mem_set_unit] at hx hx'
  have h1 := hx a
  have h2 := hx' a
  omega

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

variable (c : Thread nD τ) {sp : Space} {s : Shape} {e : EltTy}

/-- Two rectangles as a family over the booleans. -/
def pair (r₁ r₂ : Rect s) (b : Bool) : Rect s := cond b r₁ r₂

section Two
variable {m : Memref sig c.2.kind sp s e} {q : PosShare TreeShare} {r₁ r₂ : Rect s}
  {h₁ : ∀ a, r₁.stride a = 1} {h₂ : ∀ a, r₂.stride a = 1}
  (hd : Disjoint r₁.set r₂.set) (hc : ∀ x : s.Idx, x ∈ r₁.set ∨ x ∈ r₂.set)

include hd in
theorem pair_disjoint (t t' : Bool) (h : t ≠ t') : Disjoint (pair r₁ r₂ t).set (pair r₁ r₂ t').set := by
  cases t <;> cases t'
  · exact absurd rfl h
  · exact hd.symm
  · exact hd
  · exact absurd rfl h

include hc in
theorem pair_cover : (Finset.univ : Finset Bool).biUnion (fun t => (pair r₁ r₂ t).set) = Finset.univ := by
  ext x
  refine ⟨fun _ => Finset.mem_univ x, fun _ => Finset.mem_biUnion.mpr ?_⟩
  rcases hc x with h | h
  · exact ⟨true, Finset.mem_univ _, h⟩
  · exact ⟨false, Finset.mem_univ _, h⟩

include h₁ h₂ in
theorem pair_stride (t : Bool) (a) : (pair r₁ r₂ t).stride a = 1 := by
  cases t
  · exact h₂ a
  · exact h₁ a

include hd hc in
/-- A memref cut in two. -/
theorem owns_split2 (X : s.Idx → Val e) :
    (owns c m q X : sProp 𝕄) ⊢ iprop(owns c (m.slice r₁ h₁) q (fun j => X (r₁.emb j)) ∗ owns c (m.slice r₂ h₂) q (fun j => X (r₂.emb j))) := by
  refine (owns_rects c m q (pair r₁ r₂) (pair_stride (h₁ := h₁) (h₂ := h₂)) (pair_disjoint hd) (pair_cover hc) X).trans ?_
  rw [bigSep_univ_eq_bigSepL [true, false] (by decide) (by decide), bigSepL_cons_cons, bigSepL_singleton]
  exact .rfl

include hd hc in
/-- The two parts joined. -/
theorem owns_join2 [∀ e, Nonempty (Val e)] {X : s.Idx → Val e} {X₁ : r₁.shape.Idx → Val e} {X₂ : r₂.shape.Idx → Val e}
    (e₁ : ∀ j, X (r₁.emb j) = X₁ j) (e₂ : ∀ j, X (r₂.emb j) = X₂ j) :
    iprop(owns c (m.slice r₁ h₁) q X₁ ∗ owns c (m.slice r₂ h₂) q X₂) ⊢ (owns c m q X : sProp 𝕄) := by
  obtain rfl : (fun j => X (r₁.emb j)) = X₁ := funext e₁
  obtain rfl : (fun j => X (r₂.emb j)) = X₂ := funext e₂
  refine BIBase.Entails.trans ?_ (owns_of_rects c m q (pair r₁ r₂) (pair_stride (h₁ := h₁) (h₂ := h₂)) (pair_disjoint hd) (pair_cover hc) X)
  rw [bigSep_univ_eq_bigSepL [true, false] (by decide) (by decide), bigSepL_cons_cons, bigSepL_singleton]
  exact .rfl

include hd hc in
/-- Contents of two complementary rectangles are contents of the whole. -/
theorem exists_glue {α : Type} (X₁ : r₁.shape.Idx → α) (X₂ : r₂.shape.Idx → α) :
    ∃ X : s.Idx → α, (∀ j, X (r₁.emb j) = X₁ j) ∧ ∀ j, X (r₂.emb j) = X₂ j := by
  refine ⟨Rect.glue (pair r₁ r₂) (pair_cover hc) (fun t => match t with | true => X₁ | false => X₂), fun j => ?_, fun j => ?_⟩
  · exact Rect.glue_emb (pair r₁ r₂) (pair_cover hc) (pair_disjoint hd) (fun t => match t with | true => X₁ | false => X₂) true j
  · exact Rect.glue_emb (pair r₁ r₂) (pair_cover hc) (pair_disjoint hd) (fun t => match t with | true => X₁ | false => X₂) false j

include hd hc in
/-- The two parts joined, their contents not named. -/
theorem any_join2 [∀ e, Nonempty (Val e)] :
    iprop((∃ X, owns c (m.slice r₁ h₁) q X) ∗ (∃ X, owns c (m.slice r₂ h₂) q X)) ⊢ (iprop(∃ X, owns c m q X) : sProp 𝕄) := by
  iintro ⟨⟨%X₁, H1⟩, ⟨%X₂, H2⟩⟩
  obtain ⟨X, e₁, e₂⟩ := exists_glue hd hc X₁ X₂
  iexists X
  iapply (owns_join2 c hd hc e₁ e₂)
  isplitl [H1] <;> iassumption

end Two

/-- Pairwise disjoint slices of an owned memref. -/
theorem owns_slices {m : Memref sig c.2.kind sp s e} {q : PosShare TreeShare} {T : Type} [Fintype T] [DecidableEq T] (r : T → Rect s)
    (hr : ∀ t a, (r t).stride a = 1) (hd : ∀ t t', t ≠ t' → Disjoint (r t).set (r t').set) (X : s.Idx → Val e) :
    (owns c m q X : sProp 𝕄) ⊢ BI.bigSep Finset.univ fun t => owns c (m.slice (r t) (hr t)) q (fun j => X ((r t).emb j)) := by
  have hsub : ((Finset.univ : Finset T).biUnion fun t => (m.view.slice (r t)).set) ⊆ m.view.set := by
    intro x hx
    obtain ⟨t, -, hx⟩ := Finset.mem_biUnion.mp hx
    exact View.set_slice_subset _ _ hx
  have h2 (g : m.view.ty.Contents Val) : (m.view.loc c ↦[(Finset.univ : Finset T).biUnion fun t => (m.view.slice (r t)).set]{q} g : sProp 𝕄)
      ⊢ BI.bigSep Finset.univ fun t => owns c (m.slice (r t) (hr t)) q (fun j => m.view.read Val g ((r t).emb j)) := by
    rw [pointsTo_biUnion _ _ fun t _ t' _ htt => by
      rw [View.set_slice, View.set_slice]; exact (Finset.disjoint_map _).mpr (hd t t' htt)]
    exact BI.bigSep_mono (fun t _ => owns_intro c (m.slice (r t) (hr t)) q g)
  have h1 : (owns c m q X : sProp 𝕄) ⊢ iprop(∃ g, ⌜m.view.read Val g = X⌝ ∗ m.view.loc c ↦[m.view.set]{q} g) := .rfl
  iintro H
  ihave H' := h1 $$ H
  icases H' with ⟨%g, %hg, H⟩
  ihave H2 := (pointsTo_split_subset hsub).1 $$ H
  icases H2 with ⟨H, -⟩
  subst hg
  iapply (h2 g) $$ H

/-- What a memref is owned at is what the machine's memory holds there. -/
theorem owns_read [Preorder Lvl] {m : Memref sig c.2.kind sp s e} {q : PosShare TreeShare} {X : s.Idx → Val e} (st : Phys nD τ sig Val) :
    iprop(owns c m q X ∗ SI st) ⊢ (iprop(⌜m.view.read Val (st.mem.mem (m.view.loc c)) = X⌝) : sProp 𝕄) := by
  unfold owns
  iintro ⟨⟨%f, %hf, H⟩, HS⟩
  ihave %h := SI_pointsTo_agree $$ [HS H]
  · isplitl [HS] <;> iassumption
  ipureintro
  rw [← hf]
  funext x
  simp only [View.read]
  rw [h _ (Finset.mem_map_of_mem _ (Finset.mem_univ x))]

end Cert.Steps

end
-- ==== Proof.Sums.lean ====
/-
  Separating conjunctions over a range of numbers, cut into shorter ranges.
-/
module

public import Idealize.ShloMosaic.Lib.Pipeline.Kit

@[expose] public section

noncomputable section

namespace Cert.Steps

open Idealize.SL Idealize.SL.RA Idealize.SL.BI
open scoped Idealize.SL.BI
open Idealize.SL.BI.BIBase Idealize.SL.ProofMode

variable {M : Type} [URA M]

/-- A range of `a + b` numbers is the first `a` and the `b` after them. -/
theorem bigSep_range_add (a b : ℕ) (Φ : ℕ → sProp M) :
    (bigSep Finset.univ fun i : Fin (a + b) => Φ i.val)
      = iprop((bigSep Finset.univ fun i : Fin a => Φ i.val) ∗ bigSep Finset.univ fun i : Fin b => Φ (a + i.val)) := by
  rw [bigSep_univ_equiv finSumFinEquiv (fun i : Fin (a + b) => Φ i.val), bigSep_univ_sum]
  rfl

/-- The last one taken off, -/
theorem bigSep_range_last (n : ℕ) (Φ : ℕ → sProp M) :
    (bigSep Finset.univ fun i : Fin (n + 1) => Φ i.val) = iprop((bigSep Finset.univ fun i : Fin n => Φ i.val) ∗ Φ n) := by
  rw [bigSep_range_add n 1, bigSep_univ_of_subsingleton (0 : Fin 1)]
  rfl

/-- the first one taken off. -/
theorem bigSep_range_first (n : ℕ) (Φ : ℕ → sProp M) :
    (bigSep Finset.univ fun i : Fin (n + 1) => Φ i.val) = iprop(Φ 0 ∗ bigSep Finset.univ fun i : Fin n => Φ (1 + i.val)) := by
  rw [bigSep_univ_equiv (finCongr (Nat.add_comm 1 n)) (fun i : Fin (n + 1) => Φ i.val)]
  refine Eq.trans (show _ = (bigSep Finset.univ fun i : Fin (1 + n) => Φ i.val) from rfl) ?_
  rw [bigSep_range_add 1 n, bigSep_univ_of_subsingleton (0 : Fin 1)]
  rfl

/-- Twelve, twelve and two. -/
theorem bigSep_range26 (Φ : ℕ → sProp M) :
    (bigSep Finset.univ fun i : Fin 26 => Φ i.val)
      = iprop(((bigSep Finset.univ fun i : Fin 12 => Φ i.val) ∗ bigSep Finset.univ fun i : Fin 12 => Φ (12 + i.val)) ∗ Φ 24 ∗ Φ 25) := by
  refine (bigSep_range_add 24 2 Φ).trans ?_
  rw [show (bigSep Finset.univ fun i : Fin 24 => Φ i.val)
    = iprop((bigSep Finset.univ fun i : Fin 12 => Φ i.val) ∗ bigSep Finset.univ fun i : Fin 12 => Φ (12 + i.val)) from bigSep_range_add 12 12 Φ]
  rw [bigSep_univ_two]
  rfl

end Cert.Steps

end
-- ==== Proof.KernelIdealBase.lean ====
/-
  The mesh, the memrefs, the cells and the contents of the four-device product.

  Device `c` exchanges with two partners: `p1 c` and `p2 c`. The 2048 output rows are four groups of 512; the two column
  halves are worked on independently. Device `c` finishes one group of each column half: it adds its own block product, the
  one its partner of step 1 sent, and the sum of two that its partner of step 2 sent. The finished groups are then sent
  round so that every device holds every group.
-/
module

public import proofs.«01_k».proof.Proof.Steps
public import proofs.«01_k».proof.Proof.Parts
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- The partner whose number differs in the lowest bit. -/
def p1 (c : Dev nD) : Dev nD := ![1, 0, 3, 2] c
/-- The partner at distance `3 - c`. -/
def p2 (c : Dev nD) : Dev nD := ![3, 2, 1, 0] c

theorem p1_p1 (c : Dev nD) : p1 (p1 c) = c := by revert c; decide
theorem p2_p2 (c : Dev nD) : p2 (p2 c) = c := by revert c; decide
theorem p1_ne_p2 (c : Dev nD) : p1 c ≠ p2 c := by revert c; decide

def swap1 : Dev nD ≃ Dev nD := ⟨p1, p1, p1_p1, p1_p1⟩
def swap2 : Dev nD ≃ Dev nD := ⟨p2, p2, p2_p2, p2_p2⟩

theorem dev1_eq (c : Dev nD) : (⟨k0_dev1 c, k0_dev1_lt c⟩ : Dev nD) = p1 c := by revert c; decide +kernel
theorem dev2_eq (c : Dev nD) : (⟨k0_dev2 c, k0_dev2_lt c⟩ : Dev nD) = p2 c := by revert c; decide +kernel
theorem dev3_eq (c : Dev nD) : (⟨k0_dev3 c, k0_dev3_lt c⟩ : Dev nD) = p1 c := by revert c; decide +kernel
theorem dev4_eq (c : Dev nD) : (⟨k0_dev4 c, k0_dev4_lt c⟩ : Dev nD) = p2 c := by revert c; decide +kernel
theorem dev5_eq (c : Dev nD) : (⟨k0_dev5 c, k0_dev5_lt c⟩ : Dev nD) = p1 c := by revert c; decide +kernel
theorem dev6_eq (c : Dev nD) : (⟨k0_dev6 c, k0_dev6_lt c⟩ : Dev nD) = p2 c := by revert c; decide +kernel
theorem dev7_eq (c : Dev nD) : (⟨k0_dev7 c, k0_dev7_lt c⟩ : Dev nD) = p2 c := by revert c; decide +kernel
theorem dev8_eq (c : Dev nD) : (⟨k0_dev8 c, k0_dev8_lt c⟩ : Dev nD) = p1 c := by revert c; decide +kernel
theorem dev9_eq (c : Dev nD) : (⟨k0_dev9 c, k0_dev9_lt c⟩ : Dev nD) = p2 c := by revert c; decide +kernel
theorem dev10_eq (c : Dev nD) : (⟨k0_dev10 c, k0_dev10_lt c⟩ : Dev nD) = p1 c := by revert c; decide +kernel
theorem dev11_eq (c : Dev nD) : (⟨k0_dev11 c, k0_dev11_lt c⟩ : Dev nD) = p1 c := by revert c; decide +kernel
theorem dev12_eq (c : Dev nD) : (⟨k0_dev12 c, k0_dev12_lt c⟩ : Dev nD) = p2 c := by revert c; decide +kernel
theorem dev13_eq (c : Dev nD) : (⟨k0_dev13 c, k0_dev13_lt c⟩ : Dev nD) = p1 c := by revert c; decide +kernel
theorem dev14_eq (c : Dev nD) : (⟨k0_dev14 c, k0_dev14_lt c⟩ : Dev nD) = p2 c := by revert c; decide +kernel

/-! ## Row groups: the four halves of the working buffers

Left columns: rows `k0_off2 c` go out first, rows `k0_off8 c` are finished here. Right columns: rows `k0_off11 c` go out
first, rows `k0_off5 c` are finished here. -/

theorem off3_eq (c : Dev nD) : k0_off3 c = k0_off2 c := by revert c; decide +kernel
theorem off6_eq (c : Dev nD) : k0_off6 c = k0_off5 c := by revert c; decide +kernel
theorem off9_eq (c : Dev nD) : k0_off9 c = k0_off8 c := by revert c; decide +kernel
theorem off12_eq (c : Dev nD) : k0_off12 c = k0_off11 c := by revert c; decide +kernel
theorem off8_p2 (c : Dev nD) : k0_off8 (p2 c) = k0_off2 c := by revert c; decide +kernel
theorem off5_p1 (c : Dev nD) : k0_off5 (p1 c) = k0_off11 c := by revert c; decide +kernel

/-- The two halves of a working buffer, left columns. -/
theorem off28 (c : Dev nD) : (k0_off2 c = ![0, 0] ∧ k0_off8 c = ![512, 0]) ∨ (k0_off2 c = ![512, 0] ∧ k0_off8 c = ![0, 0]) := by
  revert c; decide +kernel
theorem off115 (c : Dev nD) : (k0_off11 c = ![0, 0] ∧ k0_off5 c = ![512, 0]) ∨ (k0_off11 c = ![512, 0] ∧ k0_off5 c = ![0, 0]) := by
  revert c; decide +kernel

theorem halves_disjoint {off off' : Fin 2 → ℕ} (h : (off = ![0, 0] ∧ off' = ![512, 0]) ∨ (off = ![512, 0] ∧ off' = ![0, 0])) {inb inb'} :
    Disjoint (Rect.unit (s := S1024x1024) off S512x1024.size inb).set (Rect.unit (s := S1024x1024) off' S512x1024.size inb').set := by
  refine Steps.unit_disjoint ⟨0, ?_⟩
  rcases h with ⟨rfl, rfl⟩ | ⟨rfl, rfl⟩ <;> simp

theorem halves_cover {off off' : Fin 2 → ℕ} (h : (off = ![0, 0] ∧ off' = ![512, 0]) ∨ (off = ![512, 0] ∧ off' = ![0, 0])) {inb inb'} (x : S1024x1024.Idx) :
    x ∈ (Rect.unit (s := S1024x1024) off S512x1024.size inb).set ∨ x ∈ (Rect.unit (s := S1024x1024) off' S512x1024.size inb').set := by
  rw [Rect.mem_set_unit, Rect.mem_set_unit]
  have h0 : (x 0).val < 1024 := (x 0).isLt
  have h1 : (x 1).val < 1024 := (x 1).isLt
  rcases h with ⟨rfl, rfl⟩ | ⟨rfl, rfl⟩ <;> by_cases hx : (x 0).val < 512
  · left; intro a; fin_cases a <;> simp <;> omega
  · right; intro a; fin_cases a <;> simp <;> omega
  · right; intro a; fin_cases a <;> simp <;> omega
  · left; intro a; fin_cases a <;> simp <;> omega

theorem slots_disjoint : Disjoint (Rect.unit (s := S2x512x1024) ![0, 0, 0] S1x512x1024.size inb_S2x512x1024_S1x512x1024_0_0_0).set
    (Rect.unit (s := S2x512x1024) ![1, 0, 0] S1x512x1024.size inb_S2x512x1024_S1x512x1024_1_0_0).set :=
  Steps.unit_disjoint ⟨0, Or.inl (by decide)⟩

theorem slots_cover (x : S2x512x1024.Idx) : x ∈ (Rect.unit (s := S2x512x1024) ![0, 0, 0] S1x512x1024.size inb_S2x512x1024_S1x512x1024_0_0_0).set
    ∨ x ∈ (Rect.unit (s := S2x512x1024) ![1, 0, 0] S1x512x1024.size inb_S2x512x1024_S1x512x1024_1_0_0).set := by
  rw [Rect.mem_set_unit, Rect.mem_set_unit]
  have h0 : (x 0).val < 2 := (x 0).isLt
  have h1 : (x 1).val < 512 := (x 1).isLt
  have h2 : (x 2).val < 1024 := (x 2).isLt
  by_cases hx : (x 0).val = 0
  · left; intro a; fin_cases a <;> simp <;> omega
  · right; intro a; fin_cases a <;> simp <;> omega

/-! ## The memrefs -/

abbrev aM : Memref sig .tc .vmem S2048x1024 .f32 := Memref.whole cc0_stg0_0
abbrev bM : Memref sig .tc .vmem S1024x2048 .f32 := Memref.whole cc0_stg1_0
abbrev oM : Memref sig .tc .hbm S2048x2048 .f32 := Memref.whole main_v1
abbrev q0M : Memref sig .tc .vmem S1024x1024 .f32 := Memref.whole cc0_scratch0
abbrev q1M : Memref sig .tc .vmem S1024x1024 .f32 := Memref.whole cc0_scratch1
abbrev k0M : Memref sig .tc .vmem S1024x1024 .f32 := Memref.whole cc0_scratch2
abbrev k1M : Memref sig .tc .vmem S1024x1024 .f32 := Memref.whole cc0_scratch3
abbrev u0M : Memref sig .tc .vmem S2x512x1024 .f32 := Memref.whole cc0_scratch4
abbrev u1M : Memref sig .tc .vmem S2x512x1024 .f32 := Memref.whole cc0_scratch5
abbrev w0M : Memref sig .tc .vmem S512x1024 .f32 := Memref.whole cc0_scratch6
abbrev w1M : Memref sig .tc .vmem S512x1024 .f32 := Memref.whole cc0_scratch7

/-- 512 rows of a working buffer. -/
abbrev hf (M : Memref sig .tc .vmem S1024x1024 .f32) (off : Fin 2 → ℕ) (h : ∀ a, off a + S512x1024.size a ≤ S1024x1024.size a) :
    Memref sig .tc .vmem S512x1024 .f32 := M.slice (Rect.unit (s := S1024x1024) off S512x1024.size h) (fun _ => rfl)

/-- A slot of a landing buffer of step 1, as the transfers name it. -/
abbrev sl0 (M : Memref sig .tc .vmem S2x512x1024 .f32) : Memref sig .tc .vmem S512x1024 .f32 :=
  (M.slice (Rect.unit (s := S2x512x1024) ![0, 0, 0] S1x512x1024.size inb_S2x512x1024_S1x512x1024_0_0_0) (fun _ => rfl)).squeeze S512x1024 squeezes_S1x512x1024_S512x1024
abbrev sl1 (M : Memref sig .tc .vmem S2x512x1024 .f32) : Memref sig .tc .vmem S512x1024 .f32 :=
  (M.slice (Rect.unit (s := S2x512x1024) ![1, 0, 0] S1x512x1024.size inb_S2x512x1024_S1x512x1024_1_0_0) (fun _ => rfl)).squeeze S512x1024 squeezes_S1x512x1024_S512x1024

/-- 512 rows of one column half of the result. -/
abbrev og (off : Fin 2 → ℕ) (h : ∀ a, off a + S512x1024.size a ≤ S2048x2048.size a) :
    Memref sig .tc .hbm S512x1024 .f32 := oM.slice (Rect.unit (s := S2048x2048) off S512x1024.size h) (fun _ => rfl)
/-- 1024 rows of one column half of the result. -/
abbrev oh (off : Fin 2 → ℕ) (h : ∀ a, off a + S1024x1024.size a ≤ S2048x2048.size a) :
    Memref sig .tc .hbm S1024x1024 .f32 := oM.slice (Rect.unit (s := S2048x2048) off S1024x1024.size h) (fun _ => rfl)

/-! ## The cells -/

abbrev barS : Sem sig := (SemArray.scalar (sig.barrier 0 rfl) : Sems sig S_).sem

/-- The DMA semaphore numbered `k`. -/
def dsem (k : ℕ) : DmaSem sig := (⟨k % 28, Nat.mod_lt _ (by decide)⟩ : Fin 28)

abbrev barCell (c : Dev nD) : GSem nD τ sig := ((c : Thread nD τ), .reg barS)
/-- Transfer `i`'s send cell is DMA semaphore `2 + i`, its receive cell `14 + i`; the two local copies' are 26 and 27. -/
abbrev dcell (c : Dev nD) (k : ℕ) : GSem nD τ sig := ((c : Thread nD τ), .dma (dsem k))

theorem inb12 (i : Fin 12) (a : Fin 1) : (![i.val] : Fin 1 → ℕ) a + S1.size a ≤ S12.size a := by revert i a; decide
theorem inb2 (i : Fin 2) (a : Fin 1) : (![i.val] : Fin 1 → ℕ) a + S1.size a ≤ S2.size a := by revert i a; decide
theorem lt12 {i : ℕ} (h : ∀ a, (![i] : Fin 1 → ℕ) a + S1.size a ≤ S12.size a) : i < 12 := by have := h 0; simp at this; omega
theorem lt2 {i : ℕ} (h : ∀ a, (![i] : Fin 1 → ℕ) a + S1.size a ≤ S2.size a) : i < 2 := by have := h 0; simp at this; omega
theorem send_sem' : ∀ i : Fin 12, (((cc0_scratch8.slice (Rect.unit (s := S12) ![i.val] S1.size (inb12 i))).squeeze S_ squeezes_S1_S_).sem : DmaSem sig)
    = dsem (2 + i.val) := by decide
theorem recv_sem' : ∀ i : Fin 12, (((cc0_scratch9.slice (Rect.unit (s := S12) ![i.val] S1.size (inb12 i))).squeeze S_ squeezes_S1_S_).sem : DmaSem sig)
    = dsem (14 + i.val) := by decide
theorem copy_sem' : ∀ i : Fin 2, (((cc0_scratch10.slice (Rect.unit (s := S2) ![i.val] S1.size (inb2 i))).squeeze S_ squeezes_S1_S_).sem : DmaSem sig)
    = dsem (26 + i.val) := by decide
theorem send_sem (i : ℕ) (h : ∀ a, (![i] : Fin 1 → ℕ) a + S1.size a ≤ S12.size a) :
    (((cc0_scratch8.slice (Rect.unit (s := S12) ![i] S1.size h)).squeeze S_ squeezes_S1_S_).sem : DmaSem sig) = dsem (2 + i) :=
  send_sem' ⟨i, lt12 h⟩
theorem recv_sem (i : ℕ) (h : ∀ a, (![i] : Fin 1 → ℕ) a + S1.size a ≤ S12.size a) :
    (((cc0_scratch9.slice (Rect.unit (s := S12) ![i] S1.size h)).squeeze S_ squeezes_S1_S_).sem : DmaSem sig) = dsem (14 + i) :=
  recv_sem' ⟨i, lt12 h⟩
theorem copy_sem (i : ℕ) (h : ∀ a, (![i] : Fin 1 → ℕ) a + S1.size a ≤ S2.size a) :
    (((cc0_scratch10.slice (Rect.unit (s := S2) ![i] S1.size h)).squeeze S_ squeezes_S1_S_).sem : DmaSem sig) = dsem (26 + i) :=
  copy_sem' ⟨i, lt2 h⟩

/-- A transfer of 512 rows moves `N`, a local copy of 1024 rows `N2`. -/
abbrev N : ℕ := (w0M : Memref sig .tc .vmem S512x1024 .f32).view.dmaCredit
abbrev N2 : ℕ := (k0M : Memref sig .tc .vmem S1024x1024 .f32).view.dmaCredit
theorem credit_N {sp : Space} (M : Memref sig .tc sp S512x1024 .f32) : M.view.dmaCredit = N := rfl
theorem credit_N2 {sp : Space} (M : Memref sig .tc sp S1024x1024 .f32) : M.view.dmaCredit = N2 := rfl
theorem N_pos : 0 < N := View.dmaCredit_pos _ (by decide)
theorem N2_pos : 0 < N2 := View.dmaCredit_pos _ (by decide)

/-! ## The contents -/

/-- The staged blocks of the two inputs. -/
def sA (c : Dev nD) : S2048x1024.Idx → Elt F .f32 :=
  (win0_0.blk (0 : Fin 1)).view.read (Elt F) ((s₀ m ρ).mem ((c : Thread nD τ).loc main_arg0))
def sB (c : Dev nD) : S1024x2048.Idx → Elt F .f32 :=
  (win0_1.blk (0 : Fin 1)).view.read (Elt F) ((s₀ m ρ).mem ((c : Thread nD τ).loc main_arg1))

/-- 512 rows and 1024 rows of the staged first input, the two column halves of the second. -/
def rowsA (c : Dev nD) (off : Fin 2 → ℕ) (h : ∀ a, off a + S512x1024.size a ≤ S2048x1024.size a) : S512x1024.Idx → Elt F .f32 :=
  fun j => sA m ρ c ((Rect.unit (s := S2048x1024) off S512x1024.size h).emb j)
def rowsA2 (c : Dev nD) (off : Fin 2 → ℕ) (h : ∀ a, off a + S1024x1024.size a ≤ S2048x1024.size a) : S1024x1024.Idx → Elt F .f32 :=
  fun j => sA m ρ c ((Rect.unit (s := S2048x1024) off S1024x1024.size h).emb j)
def colL (c : Dev nD) : S1024x1024.Idx → Elt F .f32 :=
  fun j => sB m ρ c ((Rect.unit (s := S1024x2048) ![0, 0] S1024x1024.size inb_S1024x2048_S1024x1024_0_0).emb j)
def colR (c : Dev nD) : S1024x1024.Idx → Elt F .f32 :=
  fun j => sB m ρ c ((Rect.unit (s := S1024x2048) ![0, 1024] S1024x1024.size inb_S1024x2048_S1024x1024_0_1024).emb j)

/-- The block products sent in step 1. -/
def q0a (c : Dev nD) : S512x1024.Idx → Elt F .f32 := k0_pay1 (rowsA m ρ c (k0_off1 c) (k0_off1_inb c)) (colL m ρ c)
def q1a (c : Dev nD) : S512x1024.Idx → Elt F .f32 := k0_pay2 (rowsA m ρ c (k0_off4 c) (k0_off4_inb c)) (colR m ρ c)
def q0b (c : Dev nD) : S512x1024.Idx → Elt F .f32 := k0_pay3 (rowsA m ρ c (k0_off7 c) (k0_off7_inb c)) (colL m ρ c)
def q1b (c : Dev nD) : S512x1024.Idx → Elt F .f32 := k0_pay5 (k0_pay4 (rowsA m ρ c (k0_off10 c) (k0_off10_inb c)) (colR m ρ c))

/-- The block products kept. -/
def k0i (c : Dev nD) : S1024x1024.Idx → Elt F .f32 := k0_pay6 (rowsA2 m ρ c (k0_off13 c) (k0_off13_inb c)) (colL m ρ c)
def k1i (c : Dev nD) : S1024x1024.Idx → Elt F .f32 := k0_pay7 (rowsA2 m ρ c (k0_off14 c) (k0_off14_inb c)) (colR m ρ c)

/-- 512 rows of them. -/
def part (X : S1024x1024.Idx → Elt F .f32) (off : Fin 2 → ℕ) (h : ∀ a, off a + S512x1024.size a ≤ S1024x1024.size a) : S512x1024.Idx → Elt F .f32 :=
  fun j => X ((Rect.unit (s := S1024x1024) off S512x1024.size h).emb j)

/-- A landed block as the load of its slot reads it. -/
def unsq (X : S512x1024.Idx → Elt F .f32) : S1x512x1024.Idx → Elt F .f32 :=
  fun i => X ((Shape.reshapeEquiv squeezes_S1x512x1024_S512x1024.numel_eq).symm i)

/-- The sums sent in step 2. -/
def k0f (c : Dev nD) : S512x1024.Idx → Elt F .f32 := k0_pay8 (part (k0i m ρ c) (k0_off2 c) (k0_off2_inb c)) (unsq (q0a m ρ (p1 c)))
def k1f (c : Dev nD) : S512x1024.Idx → Elt F .f32 := k0_pay9 (part (k1i m ρ c) (k0_off11 c) (k0_off11_inb c)) (unsq (q1a m ρ (p2 c)))
/-- The sums of step 1 kept. -/
def k0o (c : Dev nD) : S512x1024.Idx → Elt F .f32 := k0_pay10 (part (k0i m ρ c) (k0_off8 c) (k0_off8_inb c)) (unsq (q0b m ρ (p1 c)))
def k1o (c : Dev nD) : S512x1024.Idx → Elt F .f32 := k0_pay11 (part (k1i m ρ c) (k0_off5 c) (k0_off5_inb c)) (unsq (q1b m ρ (p2 c)))
/-- The finished groups. -/
def k0F (c : Dev nD) : S512x1024.Idx → Elt F .f32 := k0_pay13 (k0_pay12 (k0o m ρ c) (k0f m ρ (p2 c)))
def k1F (c : Dev nD) : S512x1024.Idx → Elt F .f32 := k0_pay14 (k1o m ρ c) (k1f m ρ (p1 c))

end Cert.KernelIdealProof

end
-- ==== Proof.KernelIdealSched.lean ====
/-
  The schedule of the exchange: what each semaphore counts and what each landing hands over, and the order in which the
  semaphores may be waited on.

  Device `c`'s barrier cell gets one unit from each partner; with it the partner hands over the places of its own memory that
  `c` will write: the landing slots and groups of the result. Every other cell gets one transfer. A send cell gives back the
  source's share; a receive cell gives the landing at named contents. In step 2 the source goes with the landing to the
  partner, who later writes the finished group over it.
-/
module

public import proofs.«01_k».proof.Proof.KernelIdealBase

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Resources -/

/-- Device `c` holds a memref at share `q` and contents `X`; -/
abbrev own {sp : Space} {s : Shape} (c : Dev nD) (M : Memref sig .tc sp s .f32) (q : PosShare TreeShare) (X : s.Idx → Elt F .f32) : sProp 𝕄 :=
  owns (c : Thread nD τ) M q X
/-- in full, at some contents. -/
abbrev any {sp : Space} {s : Shape} (c : Dev nD) (M : Memref sig .tc sp s .f32) : sProp 𝕄 :=
  iprop(∃ X : s.Idx → Elt F .f32, own c M fullShare X)

abbrev lft : PosShare TreeShare := fullShare.left
abbrev rgt : PosShare TreeShare := fullShare.right

/-- The halves of the working buffers. -/
abbrev qf0 (c : Dev nD) := hf q0M (k0_off2 c) (k0_off2_inb c)
abbrev qo0 (c : Dev nD) := hf q0M (k0_off8 c) (k0_off8_inb c)
abbrev qf1 (c : Dev nD) := hf q1M (k0_off11 c) (k0_off11_inb c)
abbrev qo1 (c : Dev nD) := hf q1M (k0_off5 c) (k0_off5_inb c)
abbrev kf0 (c : Dev nD) := hf k0M (k0_off2 c) (k0_off2_inb c)
abbrev ko0 (c : Dev nD) := hf k0M (k0_off8 c) (k0_off8_inb c)
abbrev kf1 (c : Dev nD) := hf k1M (k0_off11 c) (k0_off11_inb c)
abbrev ko1 (c : Dev nD) := hf k1M (k0_off5 c) (k0_off5_inb c)

/-- The groups of the result by the device whose program names them. -/
abbrev g15 (c : Dev nD) := og (k0_off15 c) (k0_off15_inb c)
abbrev g16 (c : Dev nD) := og (k0_off16 c) (k0_off16_inb c)
abbrev g17 (c : Dev nD) := og (k0_off17 c) (k0_off17_inb c)
abbrev g19 (c : Dev nD) := og (k0_off19 c) (k0_off19_inb c)
abbrev g18 (c : Dev nD) := oh (k0_off18 c) (k0_off18_inb c)
abbrev g20 (c : Dev nD) := oh (k0_off20 c) (k0_off20_inb c)

/-! ## Payloads -/

/-- What `p1 c` hands `c` at the barrier, and what `p2 c` does. -/
def barPay1 (c : Dev nD) : sProp 𝕄 :=
  iprop(any (p1 c) (sl0 u0M) ∗ any (p1 c) (sl1 u0M) ∗ any (p1 c) w1M ∗ any (p1 c) (g15 c) ∗ any (p1 c) (g17 c))
def barPay2 (c : Dev nD) : sProp 𝕄 :=
  iprop(any (p2 c) (sl0 u1M) ∗ any (p2 c) (sl1 u1M) ∗ any (p2 c) w0M ∗ any (p2 c) (g16 c) ∗ any (p2 c) (g19 c))

/-- What transfer `i`'s send cell gives back. -/
def sendPay (c : Dev nD) : ℕ → sProp 𝕄
  | 0 => any c (qf0 c)
  | 1 => any c (qo1 c)
  | 2 => any c (qo0 c)
  | 3 => any c (qf1 c)
  | 6 => own c (ko0 c) lft (k0F m ρ c)
  | 7 => own c (ko1 c) lft (k1F m ρ c)
  | 8 => own c (ko0 c) rgt (k0F m ρ c)
  | 9 => own c (ko1 c) rgt (k1F m ρ c)
  | 10 => own c (kf0 c) rgt (k0F m ρ (p2 c))
  | 11 => own c (kf1 c) rgt (k1F m ρ (p1 c))
  | _ => iprop(emp)

/-- What transfer `i`'s receive cell gives. -/
def recvPay (c : Dev nD) : ℕ → sProp 𝕄
  | 0 => own c (sl0 u0M) fullShare (q0a m ρ (p1 c))
  | 1 => own c (sl0 u1M) fullShare (q1a m ρ (p2 c))
  | 2 => own c (sl1 u0M) fullShare (q0b m ρ (p1 c))
  | 3 => own c (sl1 u1M) fullShare (q1b m ρ (p2 c))
  | 4 => iprop(own c w0M fullShare (k0f m ρ (p2 c)) ∗ any (p2 c) (kf0 (p2 c)))
  | 5 => iprop(own c w1M fullShare (k1f m ρ (p1 c)) ∗ any (p1 c) (kf1 (p1 c)))
  | 6 => own c (kf0 c) fullShare (k0F m ρ (p2 c))
  | 7 => own c (kf1 c) fullShare (k1F m ρ (p1 c))
  | 8 => own c (g15 (p1 c)) fullShare (k0F m ρ (p1 c))
  | 9 => own c (g16 (p2 c)) fullShare (k1F m ρ (p2 c))
  | 10 => own c (g17 (p1 c)) fullShare (k0F m ρ (p2 (p1 c)))
  | 11 => own c (g19 (p2 c)) fullShare (k1F m ρ (p1 (p2 c)))
  | _ => iprop(emp)

/-- What the local copies give: 1024 rows of the result and half a share of the working buffer, at the same contents. -/
def copyPay (c : Dev nD) : ℕ → sProp 𝕄
  | 0 => iprop(∃ X : S1024x1024.Idx → Elt F .f32, ⌜part X (k0_off8 c) (k0_off8_inb c) = k0F m ρ c ∧ part X (k0_off2 c) (k0_off2_inb c) = k0F m ρ (p2 c)⌝
      ∗ own c (g18 c) fullShare X ∗ own c k0M lft X)
  | 1 => iprop(∃ X : S1024x1024.Idx → Elt F .f32, ⌜part X (k0_off5 c) (k0_off5_inb c) = k1F m ρ c ∧ part X (k0_off11 c) (k0_off11_inb c) = k1F m ρ (p1 c)⌝
      ∗ own c (g20 c) fullShare X ∗ own c k1M lft X)
  | _ => iprop(emp)

/-- By the number of the DMA semaphore. -/
def dpay (c : Dev nD) (k : ℕ) : sProp 𝕄 :=
  if k < 14 then sendPay m ρ c (k - 2) else if k < 26 then recvPay m ρ c (k - 14) else copyPay m ρ c (k - 26)

/-- What one transfer counts. -/
def NN (k : ℕ) : ℕ := if k < 26 then N else N2

theorem NN_pos (k : ℕ) : 0 < NN k := by unfold NN; split; exacts [N_pos, N2_pos]

instance sendPay_storable (c : Dev nD) (i : ℕ) : BI.Storable (upEmb : UEmb _ 𝕄) (sendPay m ρ c i) := by
  unfold sendPay any own; split <;> infer_instance
instance recvPay_storable (c : Dev nD) (i : ℕ) : BI.Storable (upEmb : UEmb _ 𝕄) (recvPay m ρ c i) := by
  unfold recvPay any own; split <;> infer_instance
instance copyPay_storable (c : Dev nD) (i : ℕ) : BI.Storable (upEmb : UEmb _ 𝕄) (copyPay m ρ c i) := by
  unfold copyPay own; split <;> infer_instance
instance dpay_storable (c : Dev nD) (k : ℕ) : BI.Storable (upEmb : UEmb _ 𝕄) (dpay m ρ c k) := by
  unfold dpay; (repeat' split) <;> infer_instance
instance barPay1_storable (c : Dev nD) : BI.Storable (upEmb : UEmb _ 𝕄) (barPay1 (F := F) c) := by
  unfold barPay1 any own; infer_instance
instance barPay2_storable (c : Dev nD) : BI.Storable (upEmb : UEmb _ 𝕄) (barPay2 (F := F) c) := by
  unfold barPay2 any own; infer_instance

/-! ## The schedule -/

/-- What a cell hands over, by its semaphore. -/
def payOf (c : Dev nD) (d : Bool) : SemLoc sig → sProp 𝕄
  | .reg _ => if d then barPay2 c else barPay1 c
  | .dma k => dpay m ρ c k.val

instance payOf_storable (c : Dev nD) (d : Bool) (s : SemLoc sig) : BI.Storable (upEmb : UEmb _ 𝕄) (payOf m ρ c d s) := by
  unfold payOf; split
  · split <;> infer_instance
  · infer_instance

def amtOf : SemLoc sig → ℕ
  | .reg _ => 1
  | .dma k => NN k.val

def dutOf : SemLoc sig → Finset Bool
  | .reg _ => Finset.univ
  | .dma k => if 2 ≤ k.val then {false} else ∅

def Rd : Rounds.Schedule (GSem nD τ sig) Bool 𝕄 where
  duties g r := if r = 0 ∧ g.1.2 = .tc then dutOf g.2 else ∅
  unitless _ := False
  amount g _ _ := amtOf g.2
  payload g _ d := payOf m ρ g.1.1 d g.2
  amount_pos g _ _ _ := by
    rcases g with ⟨c, s | k⟩
    · exact Nat.one_pos
    · exact NN_pos _

instance Rd_payload_storable (g : GSem nD τ sig) (r : ℕ) (d : Bool) : BI.Storable (upEmb : UEmb _ 𝕄) ((Rd (F := F) m ρ).payload g r d) :=
  payOf_storable m ρ g.1.1 d g.2

section Sched
variable (c : Dev nD)

theorem dsem_val (k : ℕ) (hk : k < 28) : (dsem k).val = k := Nat.mod_eq_of_lt hk

omit [FloatOps F] in
theorem duties_later [FloatOps F] (g : GSem nD τ sig) : ∀ r, 1 ≤ r → (Rd (F := F) m ρ).duties g r = ∅ :=
  fun r hr => by dsimp only [Rd]; rw [if_neg fun h => by omega]

theorem duties_bar : (Rd (F := F) m ρ).duties (barCell c) 0 = Finset.univ := by dsimp only [Rd]; exact if_pos ⟨rfl, rfl⟩
theorem duties_dma (k : ℕ) (h2 : 2 ≤ k) (hk : k < 28) : (Rd (F := F) m ρ).duties (dcell c k) 0 = {false} := by
  dsimp only [Rd]; rw [if_pos ⟨rfl, rfl⟩]; dsimp only [dutOf]; rw [dsem_val k hk, if_pos h2]
theorem amount_bar (d : Bool) : (Rd (F := F) m ρ).amount (barCell c) 0 d = 1 := rfl
theorem amount_dma (k : ℕ) (hk : k < 28) (d : Bool) : (Rd (F := F) m ρ).amount (dcell c k) 0 d = NN k := by
  dsimp only [Rd, amtOf]; rw [dsem_val k hk]
theorem payload_bar1 : (Rd (F := F) m ρ).payload (barCell c) 0 false = barPay1 c := rfl
theorem payload_bar2 : (Rd (F := F) m ρ).payload (barCell c) 0 true = barPay2 c := rfl
theorem payload_dma (k : ℕ) (hk : k < 28) (d : Bool) : (Rd (F := F) m ρ).payload (dcell c k) 0 d = dpay m ρ c k := by
  dsimp only [Rd, payOf]; rw [dsem_val k hk]

theorem dpay_send (i : ℕ) (hi : i < 12) : dpay m ρ c (2 + i) = sendPay m ρ c i := by
  unfold dpay; rw [if_pos (by omega), Nat.add_sub_cancel_left]
theorem dpay_recv (i : ℕ) (hi : i < 12) : dpay m ρ c (14 + i) = recvPay m ρ c i := by
  unfold dpay; rw [if_neg (by omega), if_pos (by omega), Nat.add_sub_cancel_left]
theorem dpay_copy (i : ℕ) : dpay m ρ c (26 + i) = copyPay m ρ c i := by
  unfold dpay; rw [if_neg (by omega), if_neg (by omega), Nat.add_sub_cancel_left]

theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma (k : ℕ) (h2 : 2 ≤ k) (hk : k < 28) : (Rd (F := F) m ρ).expect (dcell c k) 0 = NN k := by
  unfold Schedule.expect Schedule.amountOf; rw [duties_dma m ρ c k h2 hk, Finset.sum_singleton, amount_dma m ρ c k hk]

theorem rest_bar : bigSep ((Rd (F := F) m ρ).duties (barCell c) 0 \ ∅) (fun d => (Rd (F := F) m ρ).payload (barCell c) 0 d)
    = iprop(barPay1 c ∗ barPay2 c) := by
  rw [Finset.sdiff_empty, duties_bar, bigSep_univ_eq_bigSepL [false, true] (by decide) (by decide), bigSepL_cons_cons, bigSepL_singleton,
    payload_bar1, payload_bar2]
  rfl
theorem rest_dma (k : ℕ) (h2 : 2 ≤ k) (hk : k < 28) :
    bigSep ((Rd (F := F) m ρ).duties (dcell c k) 0 \ ∅) (fun d => (Rd (F := F) m ρ).payload (dcell c k) 0 d) = dpay m ρ c k := by
  rw [Finset.sdiff_empty, duties_dma m ρ c k h2 hk, bigSep_singleton, payload_dma m ρ c k hk]

end Sched

/-! ## What each core owes; the levels -/

/-- The partner of transfer `i`. -/
def prt (i : ℕ) (c : Dev nD) : Dev nD := if i = 1 ∨ i = 3 ∨ i = 4 ∨ i = 6 ∨ i = 9 ∨ i = 11 then p2 c else p1 c

theorem prt_prt (i : ℕ) (c : Dev nD) : prt i (prt i c) = c := by
  unfold prt; split
  · exact p2_p2 c
  · exact p1_p1 c

/-- What device `c` owes before its last `n` transfers: each one's credit on its partner's receive cell, the next on top. -/
def owed (c : Dev nD) : ℕ → CellTallies nD τ sig Unit
  | 0 => 0
  | n + 1 => owed c n + tallyAt (dcell (prt (11 - n) c) (14 + (11 - n))) () N

def O₁ (c : Dev nD) : CellTallies nD τ sig Unit := owed c 12 + tallyAt (barCell (p2 c)) () 1
def O₀ (c : Dev nD) : CellTallies nD τ sig Unit := O₁ c + tallyAt (barCell (p1 c)) () 1

def L (g : GSem nD τ sig) : Finset Unit := if g.1.2 = .tc then {()} else ∅
/-- Receive cell `i` at `i + 2`, barrier cells at 1, everything else at 0. -/
def lvOf : SemLoc sig → ℕ
  | .reg _ => 1
  | .dma k => if 14 ≤ k.val ∧ k.val < 26 then k.val - 12 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u u' : Unit} {k : ℕ} (h : 0 < (tallyAt g u k : CellTallies nD τ sig Unit) g' u') : g' = g := by
  rw [tallyAt_apply] at h
  by_contra hn
  rw [if_neg (fun h' => hn h'.1)] at h
  exact Nat.lt_irrefl 0 h

/-- A cell owed on before the last `n` transfers is a receive cell of one of them. -/
theorem owed_pos {c : Dev nD} {n : ℕ} (hn : n ≤ 12) {g : GSem nD τ sig} {u : Unit} (h : 0 < owed c n g u) :
    g.1.2 = .tc ∧ 14 - n ≤ lv g u := by
  induction n with
  | zero => exact absurd h (Nat.lt_irrefl 0)
  | succ n ih =>
    unfold owed at h
    rw [Pi.add_apply, Finsupp.add_apply] at h
    rcases Nat.add_pos_iff_pos_or_pos.1 h with h0 | h0
    · obtain ⟨h1, h2⟩ := ih (by omega) h0
      exact ⟨h1, by omega⟩
    · have := tally_pos h0
      subst this
      refine ⟨rfl, ?_⟩
      dsimp only [lv, lvOf]
      rw [dsem_val _ (by omega), if_pos ⟨by omega, by omega⟩]
      omega

theorem O₀_pos {c : Dev nD} {g : GSem nD τ sig} {u : Unit} (h : 0 < O₀ c g u) : g.1.2 = .tc ∧ 1 ≤ lv g u := by
  unfold O₀ O₁ at h
  rw [Pi.add_apply, Finsupp.add_apply, Pi.add_apply, Finsupp.add_apply] at h
  rcases Nat.add_pos_iff_pos_or_pos.1 h with h0 | h0
  · rcases Nat.add_pos_iff_pos_or_pos.1 h0 with h0 | h0
    · obtain ⟨h1, h2⟩ := owed_pos le_rfl h0
      exact ⟨h1, by omega⟩
    · rw [tally_pos h0]; exact ⟨rfl, le_rfl⟩
  · rw [tally_pos h0]; exact ⟨rfl, le_rfl⟩

theorem mem_L {g : GSem nD τ sig} (h : g.1.2 = .tc) (u : Unit) : u ∈ L g := by
  unfold L; rw [if_pos h]; exact Finset.mem_singleton_self _

omit [FloatOps F] in
/-- A wait below everything that is owed. -/
theorem mayWait_of (c : Dev nD) (s : SemLoc sig) (O : CellTallies nD τ sig Unit)
    (hO : ∀ g u, 0 < O g u → g.1.2 = .tc ∧ lvOf s < lv g u) :
    (levAts L lv : sProp 𝕄) ⊢ MayWait (c : Thread nD τ) s () O :=
  MayOwe.of_cut (L := L) (lev := lv) (lvOf s) (fun p hp => by rw [Finset.mem_singleton.mp hp, L_tc]; exact Finset.mem_singleton_self _)
    (fun g u hg => mem_L (hO g u hg).1 u)
    (fun p hp => by rw [Finset.mem_singleton.mp hp]; exact le_rfl)
    (fun g u hg => (hO g u hg).2)

omit [FloatOps F] in
theorem mayWait_owed (c : Dev nD) (s : SemLoc sig) (n : ℕ) (hn : n ≤ 12) (hs : lvOf s + n < 14) :
    (levAts L lv : sProp 𝕄) ⊢ MayWait (c : Thread nD τ) s () (owed c n) :=
  mayWait_of c s _ fun g u h => by
    obtain ⟨h1, h2⟩ := owed_pos hn h
    exact ⟨h1, by omega⟩

omit [FloatOps F] in
theorem mayWait_stage (c : Dev nD) (s : SemLoc sig) (hs : lvOf s = 0) (O : CellTallies nD τ sig Unit) (hO : O = O₀ c ∨ O = 0) :
    (levAts L lv : sProp 𝕄) ⊢ MayWait (c : Thread nD τ) s () O := by
  rcases hO with rfl | rfl
  · exact mayWait_of c s _ fun g u h => by
      obtain ⟨h1, h2⟩ := O₀_pos h
      exact ⟨h1, by omega⟩
  · rw [MayWait_zero]; iintro -; iempintro

end Cert.KernelIdealProof

end
-- ==== Proof.KernelIdealSteps.lean ====
/-
  The cells' shared records, and one rule per kind of step of the body: a transfer, a wait, a local copy — each for every
  transfer number at once.
-/
module

public import proofs.«01_k».proof.Proof.KernelIdealSched
public import Idealize.ShloMosaic.Lib.MemrefSat

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells and their records -/

/-- A device's cells: its barrier cell, then DMA semaphores 2 to 27. -/
def csem (j : Fin 27) : SemLoc sig := if j.val = 0 then .reg barS else .dma (dsem (j.val + 1))
abbrev kcell (cj : Dev nD × Fin 27) : GSem nD τ sig := ((cj.1 : Thread nD τ), csem cj.2)

/-- The index of DMA semaphore `k`. -/
def kidx (k : ℕ) : Fin 27 := ⟨(k - 1) % 27, Nat.mod_lt _ (by decide)⟩

theorem kcell_zero (c : Dev nD) : kcell (c, 0) = barCell c := rfl
theorem kcell_kidx (c : Dev nD) (k : ℕ) (h2 : 2 ≤ k) (hk : k < 28) : kcell (c, kidx k) = dcell c k := by
  have h : (kidx k).val = k - 1 := Nat.mod_eq_of_lt (by omega)
  show ((c : Thread nD τ), csem (kidx k)) = _
  unfold csem; rw [h, if_neg (by omega), show k - 1 + 1 = k by omega]

def records (K : Dev nD × Fin 27 → ℕ) : sProp 𝕄 :=
  iprop((bigSep Finset.univ fun cj : Dev nD × Fin 27 => cellInv ER (Rd m ρ) (K cj) (kcell cj))
    ∗ bigSep Finset.univ fun cj : Dev nD × Fin 27 => reached ER (kcell cj) 0)

instance records_persistent (K : Dev nD × Fin 27 → ℕ) : BI.Persistent (records m ρ K) := by unfold records; infer_instance

/-- What every step may look up: the records of all cells and the levels. -/
def ctx (K : Dev nD × Fin 27 → ℕ) : sProp 𝕄 := iprop(records m ρ K ∗ levAts L lv)

instance ctx_persistent (K : Dev nD × Fin 27 → ℕ) : BI.Persistent (ctx m ρ K) := by unfold ctx; infer_instance

theorem inv_bar (K : Dev nD × Fin 27 → ℕ) (c : Dev nD) : ctx m ρ K ⊢ cellInv ER (Rd m ρ) (K (c, 0)) (barCell c) := by
  unfold ctx records
  iintro ⟨⟨H, -⟩, -⟩
  iapply (show _ ⊢ cellInv ER (Rd m ρ) (K (c, 0)) (kcell (c, 0)) from bigSep_elim (Φ := fun cj : Dev nD × Fin 27 => cellInv ER (Rd m ρ) (K cj) (kcell cj)) (Finset.mem_univ (c, 0)))
  iexact H
theorem inv_dma (K : Dev nD × Fin 27 → ℕ) (c : Dev nD) (k : ℕ) (h2 : 2 ≤ k) (hk : k < 28) :
    ctx m ρ K ⊢ cellInv ER (Rd m ρ) (K (c, kidx k)) (dcell c k) := by
  unfold ctx records
  rw [← kcell_kidx c k h2 hk]
  iintro ⟨⟨H, -⟩, -⟩
  iapply (show _ ⊢ cellInv ER (Rd m ρ) (K (c, kidx k)) (kcell (c, kidx k)) from bigSep_elim (Φ := fun cj : Dev nD × Fin 27 => cellInv ER (Rd m ρ) (K cj) (kcell cj)) (Finset.mem_univ (c, kidx k)))
  iexact H
theorem reached_bar (K : Dev nD × Fin 27 → ℕ) (c : Dev nD) : ctx m ρ K ⊢ reached ER (barCell c) 0 := by
  unfold ctx records
  iintro ⟨⟨-, H⟩, -⟩
  iapply (show _ ⊢ reached ER (kcell (c, 0)) 0 from bigSep_elim (Φ := fun cj : Dev nD × Fin 27 => reached ER (kcell cj) 0) (Finset.mem_univ (c, 0)))
  iexact H
theorem reached_dma (K : Dev nD × Fin 27 → ℕ) (c : Dev nD) (k : ℕ) (h2 : 2 ≤ k) (hk : k < 28) : ctx m ρ K ⊢ reached ER (dcell c k) 0 := by
  unfold ctx records
  rw [← kcell_kidx c k h2 hk]
  iintro ⟨⟨-, H⟩, -⟩
  iapply (show _ ⊢ reached ER (kcell (c, kidx k)) 0 from bigSep_elim (Φ := fun cj : Dev nD × Fin 27 => reached ER (kcell cj) 0) (Finset.mem_univ (c, kidx k)))
  iexact H
theorem levs (K : Dev nD × Fin 27 → ℕ) : ctx m ρ K ⊢ levAts L lv := by
  unfold ctx
  iintro ⟨-, H⟩
  iexact H

/-! ## What a device holds of its transfers -/

/-- The device owes `O`, whatever it has waited on. -/
def owesE (c : Dev nD) (O : CellTallies nD τ sig Unit) : sProp 𝕄 := iprop(∃ W, owes (c : Thread nD τ) O W)
/-- A DMA cell about to be waited on. -/
def live (k : ℕ) (c : Dev nD) : sProp 𝕄 := iprop(atPos ER (dcell c k) 0 ∅ 0 ∗ cred (tallyAt (dcell c k) () (NN k)))
/-- What transfer `i` is started with. -/
def tk (i : ℕ) (c : Dev nD) : sProp 𝕄 :=
  iprop(atPos ER (dcell c (2 + i)) 0 ∅ 0 ∗ dutyTok ER (dcell c (2 + i)) 0 false ∗ dutyTok ER (dcell (prt i c) (14 + i)) 0 false)
/-- What local copy `i` is started with. -/
def cp (i : ℕ) (c : Dev nD) : sProp 𝕄 := iprop(atPos ER (dcell c (26 + i)) 0 ∅ 0 ∗ dutyTok ER (dcell c (26 + i)) 0 false)
/-- The first `n` transfers done with. -/
def dn (c : Dev nD) : ℕ → sProp 𝕄
  | 0 => iprop(emp)
  | n + 1 => iprop(dn c n ∗ semVal (dcell c (2 + n)) 0 ∗ semVal (dcell c (14 + n)) 0)

theorem mem_duties (c : Dev nD) (k : ℕ) (h2 : 2 ≤ k) (hk : k < 28) : false ∈ (Rd (F := F) m ρ).duties (dcell c k) 0 := by
  rw [duties_dma m ρ c k h2 hk]; exact Finset.mem_singleton_self _

section Rules

variable (K : Dev nD × Fin 27 → ℕ) {α : Type} {Q : α → sProp (MT nD τ sig Unit (Elt F) ℕ UU ℕ)}

/-- A wait on a DMA cell: its payload, and the cell closed. -/
theorem wait_dma (c : Dev nD) (k : ℕ) (h2 : 2 ≤ k) (hk : k < 28) {s : DmaSem sig} (hs : s = dsem k) (n : ℕ) (hn : n ≤ 12)
    (hlv : lvOf (.dma (dsem k)) + n < 14)
    {sp sp' : Space} {S S' : Shape} {src : Memref sig .tc sp S .f32} {dst : Memref sig .tc sp' S' .f32} {hsrc : src.view.WordExact} {hdst : dst.view.WordExact}
    (hN : dst.view.dmaCredit = NN k) {kk : PUnit → Prog (TpuEff nD τ sig (Elt F) Λ₀ .tc) α} :
    (iprop(ctx m ρ K ∗ live k c ∗ owesE c (owed c n)) : sProp 𝕄)
      ⊢ iprop(((semVal (dcell c k) 0 ∗ dpay m ρ c k ∗ owesE c (owed c n)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  unfold live owesE
  iintro ⟨#HI, ⟨Hat, Hc⟩, %W, HO⟩ Hk
  rw [← hN]
  iapply (Rounds.wp_wait_rest_token 𝒱₀ ER (Rd m ρ) (c : Thread nD τ) none (κ := K (c, kidx k))
      (wpE_waitDma2_eq 𝒱₀ (c : Thread nD τ) none Set.univ) (Set.mem_univ _) () (O := owed c n) (W := W) (R := 0) (m := 0) (T := ∅)
      (by rw [Nat.zero_add, expect_dma m ρ c k h2 hk, hN])) $$ [Hc HO Hat]
  · isplitr; · iapply (inv_dma m ρ K c k h2 hk); iexact HI
    isplitl [Hc]; · iexact Hc
    isplitl [HO]; · iexact HO
    isplitr; · iapply (mayWait_owed c (.dma (dsem k)) n hn hlv); iapply (levs m ρ K); iexact HI
    iexact Hat
  iintro ⟨HO, Hat, -, Hpay⟩
  imod (Rounds.cell_close ER (Rd m ρ) (Set.mem_univ (K (c, kidx k))) (fun h => h) (R := 0 + 1) (duties_later m ρ (dcell c k))) $$ [Hat] with Hz
  · isplitr; · iapply (inv_dma m ρ K c k h2 hk); iexact HI
    iexact Hat
  ihave Hp := (Entails.of_eq (rest_dma m ρ c k h2 hk)) $$ Hpay
  iapply Hk
  isplitl [Hz]; · iexact Hz
  isplitl [Hp]; · iexact Hp
  iexists _; iexact HO

/-- A wait on transfer `i`'s send cell. -/
theorem wait_send (c : Dev nD) (i : ℕ) (hi : i < 12) {s : DmaSem sig} (hs : s = dsem (2 + i)) (n : ℕ) (hn : n ≤ 12)
    {sp sp' : Space} {S : Shape} {src : Memref sig .tc sp S .f32} {dst : Memref sig .tc sp' S512x1024 .f32} {hsrc : src.view.WordExact} {hdst : dst.view.WordExact}
    {kk : PUnit → Prog (TpuEff nD τ sig (Elt F) Λ₀ .tc) α} :
    (iprop(ctx m ρ K ∗ live (2 + i) c ∗ owesE c (owed c n)) : sProp 𝕄)
      ⊢ iprop(((semVal (dcell c (2 + i)) 0 ∗ sendPay m ρ c i ∗ owesE c (owed c n)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  rw [← dpay_send m ρ c i hi]
  exact wait_dma m ρ K c (2 + i) (by omega) (by omega) hs n hn
    (by dsimp only [lvOf]; rw [dsem_val _ (by omega), if_neg (by omega)]; omega) ((credit_N dst).trans (by unfold NN; rw [if_pos (by omega)]))

/-- A wait on transfer `i`'s receive cell, after the one on its send cell. -/
theorem wait_recv (c : Dev nD) (i : ℕ) (hi : i < 12) {s : DmaSem sig} (hs : s = dsem (14 + i)) (n : ℕ) (hn : n + i < 12)
    {sp sp' : Space} {S : Shape} {src : Memref sig .tc sp S .f32} {dst : Memref sig .tc sp' S512x1024 .f32} {hsrc : src.view.WordExact} {hdst : dst.view.WordExact}
    {kk : PUnit → Prog (TpuEff nD τ sig (Elt F) Λ₀ .tc) α} :
    (iprop(ctx m ρ K ∗ live (14 + i) c ∗ owesE c (owed c n) ∗ dn c i ∗ semVal (dcell c (2 + i)) 0) : sProp 𝕄)
      ⊢ iprop(((dn c (i + 1) ∗ recvPay m ρ c i ∗ owesE c (owed c n)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  iintro ⟨#HI, Hl, HO, Hd, Hs⟩ Hk
  iapply (wait_dma m ρ K c (14 + i) (by omega) (by omega) hs n (by omega)
    (by dsimp only [lvOf]; rw [dsem_val _ (by omega), if_pos ⟨by omega, by omega⟩]; omega) ((credit_N dst).trans (by unfold NN; rw [if_pos (by omega)]))) $$ [Hl HO]
  · isplitr; · iexact HI
    isplitl [Hl] <;> iassumption
  rw [dpay_recv m ρ c i hi]
  iintro ⟨Hz, Hp, HO⟩
  iapply Hk
  isplitl [Hd Hs Hz]
  · rw [show dn c (i + 1) = (iprop(dn c i ∗ semVal (dcell c (2 + i)) 0 ∗ semVal (dcell c (14 + i)) 0) : sProp 𝕄) from rfl]
    isplitl [Hd]; · iexact Hd
    isplitl [Hs] <;> iassumption
  isplitl [Hp] <;> iassumption

/-- Transfer `i` of owned contents; its source's share comes back at the send cell. -/
theorem send_i (c : Dev nD) (i n : ℕ) (hi : i < 12) (hn : 11 - n = i) (d d₀ : Dev nD) (hd : d = d₀) (hp : prt i c = d₀)
    {sp sp' : Space} {src src₀ : Memref sig .tc sp S512x1024 .f32} {dst₀ dst : Memref sig .tc sp' S512x1024 .f32} {sS sR : DmaSem sig} (hsS : sS = dsem (2 + i)) (hsR : sR = dsem (14 + i))
    {hsc : (dst : Memref sig (Dev.tc d : Thread nD τ).2.kind sp' S512x1024 .f32).view.ref.isScScratch = false} {hsrc : src.view.WordExact} {hdst : dst.view.WordExact}
    {hsem : DmaTarget.Typed sp (.dma sR) (.remote (Dev.tc d : Thread nD τ) (dst : Memref sig .tc sp' S512x1024 .f32) (.dma sS) hsc)}
    {q : PosShare TreeShare} {X : S512x1024.Idx → Elt F .f32}
    (hs : own c src q X = own c src₀ q X) (hd₀ : ∀ Y : S512x1024.Idx → Elt F .f32, own d₀ dst fullShare Y = own d₀ dst₀ fullShare Y)
    (h1 : own c src₀ q X ⊢ sendPay m ρ c i) (h2 : own d₀ dst₀ fullShare X ⊢ recvPay m ρ d₀ i)
    {kk : PUnit → Prog (TpuEff nD τ sig (Elt F) Λ₀ .tc) α} :
    (iprop(ctx m ρ K ∗ own c src₀ q X ∗ any d₀ dst₀ ∗ owesE c (owed c (n + 1)) ∗ tk i c) : sProp 𝕄)
      ⊢ iprop(((live (2 + i) c ∗ owesE c (owed c n)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc d : Thread nD τ) dst (.dma sS) hsc) (.dma sR) hsrc hdst hsem) kk) Q) := by
  subst hd hp hsS hsR
  simp only [any, ← hs, ← hd₀] at h1 h2 ⊢
  unfold owesE tk live
  iintro ⟨#HI, Hs, Hd, ⟨%W, HO⟩, Hat, Ht1, Ht2⟩ Hk
  iapply (Steps.send 𝒱₀ ER (Rd m ρ) (c : Thread nD τ) none (κ₁ := K (c, kidx (2 + i))) (κ₂ := K (prt i c, kidx (14 + i)))
    (mem_duties m ρ c (2 + i) (by omega) (by omega)) (mem_duties m ρ (prt i c) (14 + i) (by omega) (by omega))
    () N (credit_N dst) ((amount_dma m ρ c (2 + i) (by omega) false).trans (if_pos (by omega))) ((amount_dma m ρ (prt i c) (14 + i) (by omega) false).trans (if_pos (by omega)))
    (owed c n) (by show owed c n + tallyAt (dcell (prt (11 - n) c) (14 + (11 - n))) () N = _; rw [hn]) (W := W)
    (by rw [payload_dma m ρ c (2 + i) (by omega), dpay_send m ρ c i hi]; exact h1)
    (by rw [payload_dma m ρ (prt i c) (14 + i) (by omega), dpay_recv m ρ (prt i c) i hi]; exact h2)) $$ [Hs Hd HO Ht1 Ht2]
  · isplitr; · iapply (inv_dma m ρ K c (2 + i) (by omega) (by omega)); iexact HI
    isplitr; · iapply (inv_dma m ρ K (prt i c) (14 + i) (by omega) (by omega)); iexact HI
    isplitl [Hs]; · iexact Hs
    isplitl [Hd]; · iexact Hd
    isplitl [HO]; · iexact HO
    isplitl [Ht1]; · iexact Ht1
    isplitr; · iapply (reached_dma m ρ K c (2 + i) (by omega) (by omega)); iexact HI
    isplitl [Ht2]; · iexact Ht2
    iapply (reached_dma m ρ K (prt i c) (14 + i) (by omega) (by omega)); iexact HI
  iintro ⟨Hc, HO⟩
  iapply Hk
  isplitl [Hat Hc]
  · isplitl [Hat]; · iexact Hat
    rw [show NN (2 + i) = N from if_pos (by omega)]; iexact Hc
  iexists W; iexact HO

/-- Transfer `i`, whose source goes to the partner with the landing. -/
theorem send_i_away (c : Dev nD) (i n : ℕ) (hi : i < 12) (hn : 11 - n = i) (d d₀ : Dev nD) (hd : d = d₀) (hp : prt i c = d₀)
    {sp sp' : Space} {src src₀ : Memref sig .tc sp S512x1024 .f32} {dst₀ dst : Memref sig .tc sp' S512x1024 .f32} {sS sR : DmaSem sig} (hsS : sS = dsem (2 + i)) (hsR : sR = dsem (14 + i))
    {hsc : (dst : Memref sig (Dev.tc d : Thread nD τ).2.kind sp' S512x1024 .f32).view.ref.isScScratch = false} {hsrc : src.view.WordExact} {hdst : dst.view.WordExact}
    {hsem : DmaTarget.Typed sp (.dma sR) (.remote (Dev.tc d : Thread nD τ) (dst : Memref sig .tc sp' S512x1024 .f32) (.dma sS) hsc)}
    {q : PosShare TreeShare} {X : S512x1024.Idx → Elt F .f32}
    (hs : own c src q X = own c src₀ q X) (hd₀ : ∀ Y : S512x1024.Idx → Elt F .f32, own d₀ dst fullShare Y = own d₀ dst₀ fullShare Y)
    (h1 : iprop(emp) ⊢ sendPay m ρ c i) (h2 : iprop(own d₀ dst₀ fullShare X ∗ own c src₀ q X) ⊢ recvPay m ρ d₀ i)
    {kk : PUnit → Prog (TpuEff nD τ sig (Elt F) Λ₀ .tc) α} :
    (iprop(ctx m ρ K ∗ own c src₀ q X ∗ any d₀ dst₀ ∗ owesE c (owed c (n + 1)) ∗ tk i c) : sProp 𝕄)
      ⊢ iprop(((live (2 + i) c ∗ owesE c (owed c n)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc d : Thread nD τ) dst (.dma sS) hsc) (.dma sR) hsrc hdst hsem) kk) Q) := by
  subst hd hp hsS hsR
  simp only [any, ← hs, ← hd₀] at h1 h2 ⊢
  unfold owesE tk live
  iintro ⟨#HI, Hs, Hd, ⟨%W, HO⟩, Hat, Ht1, Ht2⟩ Hk
  iapply (Steps.send_landing 𝒱₀ ER (Rd m ρ) (c : Thread nD τ) none (κ₁ := K (c, kidx (2 + i))) (κ₂ := K (prt i c, kidx (14 + i)))
    (mem_duties m ρ c (2 + i) (by omega) (by omega)) (mem_duties m ρ (prt i c) (14 + i) (by omega) (by omega))
    () N (credit_N dst) ((amount_dma m ρ c (2 + i) (by omega) false).trans (if_pos (by omega))) ((amount_dma m ρ (prt i c) (14 + i) (by omega) false).trans (if_pos (by omega)))
    (owed c n) (by show owed c n + tallyAt (dcell (prt (11 - n) c) (14 + (11 - n))) () N = _; rw [hn]) (W := W)
    (by rw [payload_dma m ρ c (2 + i) (by omega), dpay_send m ρ c i hi]; exact h1)
    (by rw [payload_dma m ρ (prt i c) (14 + i) (by omega), dpay_recv m ρ (prt i c) i hi]; exact h2)) $$ [Hs Hd HO Ht1 Ht2]
  · isplitr; · iapply (inv_dma m ρ K c (2 + i) (by omega) (by omega)); iexact HI
    isplitr; · iapply (inv_dma m ρ K (prt i c) (14 + i) (by omega) (by omega)); iexact HI
    isplitl [Hs]; · iexact Hs
    isplitl [Hd]; · iexact Hd
    isplitl [HO]; · iexact HO
    isplitl [Ht1]; · iexact Ht1
    isplitr; · iapply (reached_dma m ρ K c (2 + i) (by omega) (by omega)); iexact HI
    isplitl [Ht2]; · iexact Ht2
    iapply (reached_dma m ρ K (prt i c) (14 + i) (by omega) (by omega)); iexact HI
  iintro ⟨Hc, HO⟩
  iapply Hk
  isplitl [Hat Hc]
  · isplitl [Hat]; · iexact Hat
    rw [show NN (2 + i) = N from if_pos (by omega)]; iexact Hc
  iexists W; iexact HO

/-- Local copy `i` of 1024 rows. -/
theorem copy_i (c : Dev nD) (i : ℕ) (hi : i < 2) {sp sp' : Space} {src : Memref sig .tc sp S1024x1024 .f32} {dst : Memref sig .tc sp' S1024x1024 .f32}
    {s : DmaSem sig} (hs : s = dsem (26 + i)) {hsrc : src.view.WordExact} {hdst : dst.view.WordExact} {hsem : DmaTarget.Typed (nD := nD) (τ := τ) (p := .tc) sp (.dma s) (.here dst)}
    {q : PosShare TreeShare} {X : S1024x1024.Idx → Elt F .f32}
    (h : iprop(own c dst fullShare X ∗ own c src q X) ⊢ copyPay m ρ c i) {kk : PUnit → Prog (TpuEff nD τ sig (Elt F) Λ₀ .tc) α} :
    (iprop(ctx m ρ K ∗ own c src q X ∗ any c dst ∗ cp i c) : sProp 𝕄)
      ⊢ iprop((live (26 + i) c -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.here dst) (.dma s) hsrc hdst hsem) kk) Q) := by
  subst hs
  unfold cp live
  iintro ⟨#HI, Hs, Hd, Hat, Ht⟩ Hk
  iapply (Steps.copy 𝒱₀ ER (Rd m ρ) (c : Thread nD τ) none (κ := K (c, kidx (26 + i))) (mem_duties m ρ c (26 + i) (by omega) (by omega)) () N2 (credit_N2 dst)
    ((amount_dma m ρ c (26 + i) (by omega) false).trans (if_neg (by omega)))
    (by rw [payload_dma m ρ c (26 + i) (by omega), dpay_copy m ρ c i]; exact h)) $$ [Hs Hd Ht]
  · isplitr; · iapply (inv_dma m ρ K c (26 + i) (by omega) (by omega)); iexact HI
    isplitl [Hs]; · iexact Hs
    isplitl [Hd]; · iexact Hd
    isplitl [Ht]; · iexact Ht
    iapply (reached_dma m ρ K c (26 + i) (by omega) (by omega)); iexact HI
  iintro Hc
  iapply Hk
  isplitl [Hat]; · iexact Hat
  rw [show NN (26 + i) = N2 from if_neg (by omega)]; iexact Hc

end Rules

end Cert.KernelIdealProof

end
-- ==== Proof.KernelIdealParts.lean ====
/-
  The body part by part at a symbolic device: what each part of the program takes and what it leaves, with contents.
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 27 → ℕ)

/-- A slot of a landing buffer as a load names it. -/
abbrev us0 (M : Memref sig .tc .vmem S2x512x1024 .f32) : Memref sig .tc .vmem S1x512x1024 .f32 :=
  M.slice (Rect.unit (s := S2x512x1024) ![0, 0, 0] S1x512x1024.size inb_S2x512x1024_S1x512x1024_0_0_0) (fun _ => rfl)
abbrev us1 (M : Memref sig .tc .vmem S2x512x1024 .f32) : Memref sig .tc .vmem S1x512x1024 .f32 :=
  M.slice (Rect.unit (s := S2x512x1024) ![1, 0, 0] S1x512x1024.size inb_S2x512x1024_S1x512x1024_1_0_0) (fun _ => rfl)

theorem own_any {sp : Space} {s : Shape} (c : Dev nD) (M : Memref sig .tc sp s .f32) (X : s.Idx → Elt F .f32) : own c M fullShare X ⊢ any c M := by
  iintro H; iexists X; iexact H

theorem slot0 (c : Dev nD) (M : Memref sig .tc .vmem S2x512x1024 .f32) (X : S512x1024.Idx → Elt F .f32) :
    own c (sl0 M) fullShare X ⊢ own c (us0 M) fullShare (unsq X) := Steps.owns_squeeze (c : Thread nD τ) _ _ _
theorem slot1 (c : Dev nD) (M : Memref sig .tc .vmem S2x512x1024 .f32) (X : S512x1024.Idx → Elt F .f32) :
    own c (sl1 M) fullShare X ⊢ own c (us1 M) fullShare (unsq X) := Steps.owns_squeeze (c : Thread nD τ) _ _ _

/-- Half a working buffer named at an equal offset. -/
theorem hf_off {off off' : Fin 2 → ℕ} {M : Memref sig .tc .vmem S1024x1024 .f32} (c : Dev nD) (h : off = off') {i i'} (q : PosShare TreeShare)
    (X : S512x1024.Idx → Elt F .f32) : own c (hf M off i) q X = own c (hf M off' i') q X := by
  subst h; rfl

theorem zeros2 : (![0, 0] : Fin 2 → Nat) = fun _ => 0 := funext fun a => by fin_cases a <;> rfl

/-- A working buffer cut into the half sent and the half kept, -/
theorem cut0 (c : Dev nD) (M : Memref sig .tc .vmem S1024x1024 .f32) (q : PosShare TreeShare) (X : S1024x1024.Idx → Elt F .f32) :
    own c M q X ⊢ iprop(own c (hf M (k0_off2 c) (k0_off2_inb c)) q (part X (k0_off2 c) (k0_off2_inb c)) ∗ own c (hf M (k0_off8 c) (k0_off8_inb c)) q (part X (k0_off8 c) (k0_off8_inb c))) :=
  Steps.owns_split2 (c : Thread nD τ) (halves_disjoint (off28 c)) (halves_cover (off28 c)) X
theorem cut1 (c : Dev nD) (M : Memref sig .tc .vmem S1024x1024 .f32) (q : PosShare TreeShare) (X : S1024x1024.Idx → Elt F .f32) :
    own c M q X ⊢ iprop(own c (hf M (k0_off11 c) (k0_off11_inb c)) q (part X (k0_off11 c) (k0_off11_inb c)) ∗ own c (hf M (k0_off5 c) (k0_off5_inb c)) q (part X (k0_off5 c) (k0_off5_inb c))) :=
  Steps.owns_split2 (c : Thread nD τ) (halves_disjoint (off115 c)) (halves_cover (off115 c)) X

/-- and put together again. -/
theorem glue0 (c : Dev nD) (M : Memref sig .tc .vmem S1024x1024 .f32) (q : PosShare TreeShare) (X₁ X₂ : S512x1024.Idx → Elt F .f32) :
    iprop(own c (hf M (k0_off2 c) (k0_off2_inb c)) q X₁ ∗ own c (hf M (k0_off8 c) (k0_off8_inb c)) q X₂)
      ⊢ iprop(∃ X : S1024x1024.Idx → Elt F .f32, ⌜part X (k0_off8 c) (k0_off8_inb c) = X₂ ∧ part X (k0_off2 c) (k0_off2_inb c) = X₁⌝ ∗ own c M q X) := by
  obtain ⟨X, e₁, e₂⟩ := Steps.exists_glue (halves_disjoint (inb := k0_off2_inb c) (inb' := k0_off8_inb c) (off28 c)) (halves_cover (off28 c)) X₁ X₂
  iintro H
  iexists X
  isplitr; · ipureintro; exact ⟨funext e₂, funext e₁⟩
  have J := Steps.owns_join2 (Ix := Unit) (Name := ℕ) (U := UU) (Lvl := ℕ) (c : Thread nD τ) (m := M) (q := q) (h₁ := fun _ => rfl) (h₂ := fun _ => rfl)
    (halves_disjoint (off28 c)) (halves_cover (off28 c)) e₁ e₂
  iapply J
  iexact H
theorem glue1 (c : Dev nD) (M : Memref sig .tc .vmem S1024x1024 .f32) (q : PosShare TreeShare) (X₁ X₂ : S512x1024.Idx → Elt F .f32) :
    iprop(own c (hf M (k0_off11 c) (k0_off11_inb c)) q X₁ ∗ own c (hf M (k0_off5 c) (k0_off5_inb c)) q X₂)
      ⊢ iprop(∃ X : S1024x1024.Idx → Elt F .f32, ⌜part X (k0_off5 c) (k0_off5_inb c) = X₂ ∧ part X (k0_off11 c) (k0_off11_inb c) = X₁⌝ ∗ own c M q X) := by
  obtain ⟨X, e₁, e₂⟩ := Steps.exists_glue (halves_disjoint (inb := k0_off11_inb c) (inb' := k0_off5_inb c) (off115 c)) (halves_cover (off115 c)) X₁ X₂
  iintro H
  iexists X
  isplitr; · ipureintro; exact ⟨funext e₂, funext e₁⟩
  have J := Steps.owns_join2 (Ix := Unit) (Name := ℕ) (U := UU) (Lvl := ℕ) (c : Thread nD τ) (m := M) (q := q) (h₁ := fun _ => rfl) (h₂ := fun _ => rfl)
    (halves_disjoint (off115 c)) (halves_cover (off115 c)) e₁ e₂
  iapply J
  iexact H

/-! ## The barrier -/

/-- What a device goes into the barrier with. -/
def barIn (c : Dev nD) : sProp 𝕄 :=
  iprop(dutyTok ER (barCell (p1 c)) 0 false ∗ dutyTok ER (barCell (p2 c)) 0 true ∗ atPos ER (barCell c) 0 ∅ 0 ∗ cred (tallyAt (barCell c) () 2))

set_option maxHeartbeats 1000000 in
theorem part1 (c : Dev nD) (Kt : _ → sProp (MT nD τ sig Unit (Elt F) ℕ UU ℕ)) :
    (iprop((ctx m ρ K ∗ owesE c (O₀ c) ∗ barIn c ∗ barPay1 (p1 c) ∗ barPay2 (p2 c))
        ∗ (∀ w, (owesE c (owed c 12) ∗ semVal (barCell c) 0 ∗ barPay1 c ∗ barPay2 c) -∗ Kt ⟨c, w⟩)) : sProp 𝕄)
      ⊢ wp frame (wpE (defs₀ (F := F)) 𝒱₀ (c : Thread nD τ) none) Set.univ (k0_part1 aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10) Kt := by
  simp only [k0_part1_eq_skeleton]; unfold k0_part1_skel; simp only [Prog.lift, Prog.bind_op, Prog.bind_ret, Prog.pure_eq_ret, semSignalWord, semWaitWord, wp_deviceId]
  unfold barIn owesE
  iintro ⟨⟨#HI, ⟨%W, HO⟩, ⟨Ht1, Ht2, Hat, Hc⟩, Hp1, Hp2⟩, Hk⟩
  simp only [dev1_eq c, dev2_eq c]
  iapply (Rounds.wp_signal 𝒱₀ ER (Rd m ρ) (c : Thread nD τ) none (dst := (p1 c : Thread nD τ)) (κ := K (p1 c, 0))
      (d := false) (by rw [duties_bar]; exact Finset.mem_univ _) ((amount_bar m ρ (p1 c) false).trans (by decide)) () (O₁ c) rfl)
    $$ [HO Ht1 Hp1]
  · isplitr; · iapply (inv_bar m ρ K (p1 c)); iexact HI
    isplitl [HO]; · iexact HO
    isplitl [Ht1]; · iexact Ht1
    isplitl [Hp1]; · rw [payload_bar1]; iexact Hp1
    iapply (reached_bar m ρ K (p1 c)); iexact HI
  iintro HO
  iapply (Rounds.wp_signal 𝒱₀ ER (Rd m ρ) (c : Thread nD τ) none (dst := (p2 c : Thread nD τ)) (κ := K (p2 c, 0))
      (d := true) (by rw [duties_bar]; exact Finset.mem_univ _) ((amount_bar m ρ (p2 c) true).trans (by decide)) () (owed c 12) rfl)
    $$ [HO Ht2 Hp2]
  · isplitr; · iapply (inv_bar m ρ K (p2 c)); iexact HI
    isplitl [HO]; · iexact HO
    isplitl [Ht2]; · iexact Ht2
    isplitl [Hp2]; · rw [payload_bar2]; iexact Hp2
    iapply (reached_bar m ρ K (p2 c)); iexact HI
  iintro HO
  iapply (Rounds.wp_wait_rest_token 𝒱₀ ER (Rd m ρ) (c : Thread nD τ) none (κ := K (c, 0))
      (wpE_semWait_eq 𝒱₀ (c : Thread nD τ) none Set.univ) (Set.mem_univ _) () (O := owed c 12) (W := W) (R := 0) (m := 0) (T := ∅)
      (by rw [expect_bar]; decide)) $$ [Hc HO Hat]
  · isplitr; · iapply (inv_bar m ρ K c); iexact HI
    isplitl [Hc]; · iexact Hc
    isplitl [HO]; · iexact HO
    isplitr; · iapply (mayWait_owed c (.reg barS) 12 le_rfl (by decide)); iapply (levs m ρ K); iexact HI
    iexact Hat
  iintro ⟨HO, Hat, -, Hpay⟩
  imod (Rounds.cell_close ER (Rd m ρ) (Set.mem_univ (K (c, 0))) (fun h => h) (R := 0 + 1) (duties_later m ρ (barCell c))) $$ [Hat] with Hz
  · isplitr; · iapply (inv_bar m ρ K c); iexact HI
    iexact Hat
  ihave Hp := (Entails.of_eq (rest_bar m ρ c)) $$ Hpay
  icases Hp with ⟨Hp1, Hp2⟩
  rw [wp_ret]; imodintro
  iapply Hk
  isplitl [HO]; · iexists _; iexact HO
  isplitl [Hz]; · iexact Hz
  isplitl [Hp1] <;> iassumption

/-! ## The block products and step 1 -/

set_option maxHeartbeats 1000000 in
theorem part2 (c : Dev nD) (w₁ w₂ w₃ w₄ w₅ w₆ : BitVec 32) (Kt : PUnit → sProp (MT nD τ sig Unit (Elt F) ℕ UU ℕ)) :
    (iprop((ctx m ρ K ∗ own c aM fullShare (sA m ρ c) ∗ own c bM fullShare (sB m ρ c) ∗ any c (qf0 c) ∗ any c (qo1 c) ∗ any (p1 c) (sl0 u0M)
          ∗ owesE c (owed c 12) ∗ tk 0 c)
        ∗ ((own c aM fullShare (sA m ρ c) ∗ own c bM fullShare (sB m ρ c) ∗ own c (qo1 c) fullShare (q1a m ρ c) ∗ live 2 c ∗ owesE c (owed c 11)) -∗ Kt ⟨⟩)) : sProp 𝕄)
      ⊢ wp frame (wpE (defs₀ (F := F)) 𝒱₀ (c : Thread nD τ) none) Set.univ (k0_part2 aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10 c w₁ w₂ w₃ w₄ w₅ w₆) Kt := by
  simp only [k0_part2_eq_skeleton]; unfold k0_part2_skel; simp only [Prog.lift, Prog.bind_op, Prog.bind_ret, Prog.pure_eq_ret, semSignalWord, semWaitWord, wp_deviceId]
  iintro ⟨⟨#HI, HA, HB, ⟨%X0, Hq0⟩, ⟨%X1, Hq1⟩, Hu, HO, Ht⟩, Hk⟩
  iapply (Steps.load_of 𝒱₀ (c : Thread nD τ) none) $$ HA; iintro HA
  iapply (Steps.load_of 𝒱₀ (c : Thread nD τ) none) $$ HB; iintro HB
  iapply (Steps.load_slice 𝒱₀ (c : Thread nD τ) none rfl (hr := fun _ => rfl)) $$ Hq0; iintro Hq0
  iapply (Steps.store_slice 𝒱₀ (c : Thread nD τ) none rfl (hr := fun _ => rfl)) $$ Hq0; iintro Hq0
  iapply (send_i m ρ K c 0 11 (by decide) rfl _ _ (dev3_eq c) rfl (send_sem 0 _) (recv_sem 0 _) (src₀ := qf0 c) (dst₀ := sl0 u0M) (X := q0a m ρ c)
    (hf_off c (off3_eq c) _ _) (fun _ => rfl) (own_any c (qf0 c) _)
    (Entails.of_eq (show _ = own (p1 c) (sl0 u0M) fullShare (q0a m ρ (p1 (p1 c))) by rw [p1_p1]))) $$ [Hq0 Hu HO Ht]
  · isplitr; iexact HI; isplitl [Hq0]; iexact Hq0; isplitl [Hu]; iexact Hu; isplitl [HO]; iexact HO; iexact Ht
  iintro ⟨Hl, HO⟩
  iapply (Steps.load_of 𝒱₀ (c : Thread nD τ) none) $$ HA; iintro HA
  iapply (Steps.load_of 𝒱₀ (c : Thread nD τ) none) $$ HB; iintro HB
  iapply (Steps.load_slice 𝒱₀ (c : Thread nD τ) none rfl (hr := fun _ => rfl)) $$ Hq1; iintro Hq1
  iapply (Steps.store_slice 𝒱₀ (c : Thread nD τ) none rfl (hr := fun _ => rfl)) $$ Hq1; iintro Hq1
  rw [wp_ret]; imodintro
  iapply Hk
  isplitl [HA]; iexact HA; isplitl [HB]; iexact HB; isplitl [Hq1]; iexact Hq1; isplitl [Hl]; iexact Hl; iexact HO

/-! ## What the later transfers hand over -/

theorem off9_far (c : Dev nD) : k0_off9 c = k0_off2 (p2 c) := (off9_eq c).trans ((congrArg k0_off8 (p2_p2 c)).symm.trans (off8_p2 (p2 c)))
theorem off6_far (c : Dev nD) : k0_off6 c = k0_off11 (p1 c) := (off6_eq c).trans ((congrArg k0_off5 (p1_p1 c)).symm.trans (off5_p1 (p1 c)))

theorem away4 (c : Dev nD) : iprop(own (p2 c) w0M fullShare (k0f m ρ c) ∗ own c (kf0 c) fullShare (k0f m ρ c)) ⊢ recvPay m ρ (p2 c) 4 := by
  show _ ⊢ iprop(own (p2 c) w0M fullShare (k0f m ρ (p2 (p2 c))) ∗ any (p2 (p2 c)) (kf0 (p2 (p2 c))))
  rw [p2_p2 c]
  iintro ⟨H1, H2⟩
  isplitl [H1]; · iexact H1
  iexists _; iexact H2
theorem away5 (c : Dev nD) : iprop(own (p1 c) w1M fullShare (k1f m ρ c) ∗ own c (kf1 c) fullShare (k1f m ρ c)) ⊢ recvPay m ρ (p1 c) 5 := by
  show _ ⊢ iprop(own (p1 c) w1M fullShare (k1f m ρ (p1 (p1 c))) ∗ any (p1 (p1 c)) (kf1 (p1 (p1 c))))
  rw [p1_p1 c]
  iintro ⟨H1, H2⟩
  isplitl [H1]; · iexact H1
  iexists _; iexact H2

theorem copied0 (c : Dev nD) (X : S1024x1024.Idx → Elt F .f32)
    (hX : part X (k0_off8 c) (k0_off8_inb c) = k0F m ρ c ∧ part X (k0_off2 c) (k0_off2_inb c) = k0F m ρ (p2 c)) :
    iprop(own c (g18 c) fullShare X ∗ own c k0M lft X) ⊢ copyPay m ρ c 0 := by
  show _ ⊢ iprop(∃ X : S1024x1024.Idx → Elt F .f32, ⌜part X (k0_off8 c) (k0_off8_inb c) = k0F m ρ c ∧ part X (k0_off2 c) (k0_off2_inb c) = k0F m ρ (p2 c)⌝
    ∗ own c (g18 c) fullShare X ∗ own c k0M lft X)
  iintro ⟨H1, H2⟩
  iexists X
  isplitr; · ipureintro; exact hX
  isplitl [H1] <;> iassumption
theorem copied1 (c : Dev nD) (X : S1024x1024.Idx → Elt F .f32)
    (hX : part X (k0_off5 c) (k0_off5_inb c) = k1F m ρ c ∧ part X (k0_off11 c) (k0_off11_inb c) = k1F m ρ (p1 c)) :
    iprop(own c (g20 c) fullShare X ∗ own c k1M lft X) ⊢ copyPay m ρ c 1 := by
  show _ ⊢ iprop(∃ X : S1024x1024.Idx → Elt F .f32, ⌜part X (k0_off5 c) (k0_off5_inb c) = k1F m ρ c ∧ part X (k0_off11 c) (k0_off11_inb c) = k1F m ρ (p1 c)⌝
    ∗ own c (g20 c) fullShare X ∗ own c k1M lft X)
  iintro ⟨H1, H2⟩
  iexists X
  isplitr; · ipureintro; exact hX
  isplitl [H1] <;> iassumption

end Cert.KernelIdealProof

end
-- ==== Proof.KernelIdealParts2.lean ====
/-
  The rest of the body: the kept products, the two sums, the finished groups sent round and copied out.
-/
module

public import proofs.«01_k».proof.Proof.KernelIdealParts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 27 → ℕ)

/-! ## Step 1 -/

/-- Loads from the staged inputs, their values by name. -/
theorem load_rows (c : Dev nD) {off : Fin 2 → ℕ} {h : ∀ a, off a + S512x1024.size a ≤ S2048x1024.size a} {α : Type} {Q : α → sProp (MT nD τ sig Unit (Elt F) ℕ UU ℕ)}
    {hl : (aM : Memref sig .tc .vmem S2048x1024 .f32).view.LoadsAt (Rect.unit (s := S2048x1024) off S512x1024.size h).toLoadRect}
    {k : (S512x1024.Idx → Elt F .f32) → Prog (TpuEff nD τ sig (Elt F) Λ₀ .tc) α} :
    (own c aM fullShare (sA m ρ c) : sProp 𝕄)
      ⊢ iprop((own c aM fullShare (sA m ρ c) -∗ wp frame (wpE (defs₀ (F := F)) 𝒱₀ (c : Thread nD τ) none) Set.univ (k (rowsA m ρ c off h)) Q)
          -∗ wp frame (wpE (defs₀ (F := F)) 𝒱₀ (c : Thread nD τ) none) Set.univ (.op (.load aM (Rect.unit (s := S2048x1024) off S512x1024.size h).toLoadRect hl) k) Q) :=
  Steps.load_of 𝒱₀ (c : Thread nD τ) none (m := aM) (r := Rect.unit (s := S2048x1024) off S512x1024.size h) (hl := hl) (k := k) (X := sA m ρ c)
theorem load_colR (c : Dev nD) {α : Type} {Q : α → sProp (MT nD τ sig Unit (Elt F) ℕ UU ℕ)}
    {hl : (bM : Memref sig .tc .vmem S1024x2048 .f32).view.LoadsAt (Rect.unit (s := S1024x2048) ![0, 1024] S1024x1024.size inb_S1024x2048_S1024x1024_0_1024).toLoadRect}
    {k : (S1024x1024.Idx → Elt F .f32) → Prog (TpuEff nD τ sig (Elt F) Λ₀ .tc) α} :
    (own c bM fullShare (sB m ρ c) : sProp 𝕄)
      ⊢ iprop((own c bM fullShare (sB m ρ c) -∗ wp frame (wpE (defs₀ (F := F)) 𝒱₀ (c : Thread nD τ) none) Set.univ (k (colR m ρ c)) Q)
          -∗ wp frame (wpE (defs₀ (F := F)) 𝒱₀ (c : Thread nD τ) none) Set.univ
            (.op (.load bM (Rect.unit (s := S1024x2048) ![0, 1024] S1024x1024.size inb_S1024x2048_S1024x1024_0_1024).toLoadRect hl) k) Q) :=
  Steps.load_of 𝒱₀ (c : Thread nD τ) none (m := bM) (r := Rect.unit (s := S1024x2048) ![0, 1024] S1024x1024.size inb_S1024x2048_S1024x1024_0_1024) (hl := hl) (k := k) (X := sB m ρ c)

set_option maxHeartbeats 1000000 in
theorem part3 (c : Dev nD) (w₁ w₂ w₃ w₄ w₅ : BitVec 32) (Kt : FVec F S512x1024 .f32 → sProp (MT nD τ sig Unit (Elt F) ℕ UU ℕ)) :
    (iprop((ctx m ρ K ∗ own c aM fullShare (sA m ρ c) ∗ own c bM fullShare (sB m ρ c) ∗ own c (qo1 c) fullShare (q1a m ρ c) ∗ any c (qo0 c) ∗ any c (qf1 c) ∗ any (p2 c) (sl0 u1M) ∗ any (p1 c) (sl1 u0M)
          ∗ owesE c (owed c 11) ∗ tk 1 c ∗ tk 2 c)
        ∗ ((own c aM fullShare (sA m ρ c) ∗ own c bM fullShare (sB m ρ c) ∗ any c (qf1 c) ∗ live 3 c ∗ live 4 c ∗ owesE c (owed c 9))
          -∗ Kt (k0_pay4 (rowsA m ρ c (k0_off10 c) (k0_off10_inb c)) (colR m ρ c)))) : sProp 𝕄)
      ⊢ wp frame (wpE (defs₀ (F := F)) 𝒱₀ (c : Thread nD τ) none) Set.univ (k0_part3 aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10 c w₁ w₂ w₃ w₄ w₅) Kt := by
  simp only [k0_part3_eq_skeleton]; unfold k0_part3_skel; simp only [Prog.lift, Prog.bind_op, Prog.bind_ret, Prog.pure_eq_ret, semSignalWord, semWaitWord, wp_deviceId]
  iintro ⟨⟨#HI, HA, HB, Hq1, ⟨%X0, Hq0⟩, ⟨%X1, Hqf⟩, Hu1, Hu2, HO, Ht1, Ht2⟩, Hk⟩
  iapply (send_i m ρ K c 1 10 (by decide) rfl _ _ (dev4_eq c) rfl (send_sem 1 _) (recv_sem 1 _) (src₀ := qo1 c) (dst₀ := sl0 u1M) (X := q1a m ρ c)
    (hf_off c (off6_eq c) _ _) (fun _ => rfl) (own_any c (qo1 c) _)
    (Entails.of_eq (show _ = own (p2 c) (sl0 u1M) fullShare (q1a m ρ (p2 (p2 c))) by rw [p2_p2]))) $$ [Hq1 Hu1 HO Ht1]
  · isplitr; iexact HI; isplitl [Hq1]; iexact Hq1; isplitl [Hu1]; iexact Hu1; isplitl [HO]; iexact HO; iexact Ht1
  iintro ⟨Hl1, HO⟩
  iapply (Steps.load_of 𝒱₀ (c : Thread nD τ) none) $$ HA; iintro HA
  iapply (Steps.load_of 𝒱₀ (c : Thread nD τ) none) $$ HB; iintro HB
  iapply (Steps.load_slice 𝒱₀ (c : Thread nD τ) none rfl (hr := fun _ => rfl)) $$ Hq0; iintro Hq0
  iapply (Steps.store_slice 𝒱₀ (c : Thread nD τ) none rfl (hr := fun _ => rfl)) $$ Hq0; iintro Hq0
  iapply (send_i m ρ K c 2 9 (by decide) rfl _ _ (dev5_eq c) rfl (send_sem 2 _) (recv_sem 2 _) (src₀ := qo0 c) (dst₀ := sl1 u0M) (X := q0b m ρ c)
    (hf_off c (off9_eq c) _ _) (fun _ => rfl) (own_any c (qo0 c) _)
    (Entails.of_eq (show _ = own (p1 c) (sl1 u0M) fullShare (q0b m ρ (p1 (p1 c))) by rw [p1_p1]))) $$ [Hq0 Hu2 HO Ht2]
  · isplitr; iexact HI; isplitl [Hq0]; iexact Hq0; isplitl [Hu2]; iexact Hu2; isplitl [HO]; iexact HO; iexact Ht2
  iintro ⟨Hl2, HO⟩
  iapply (load_rows m ρ c) $$ HA; iintro HA
  iapply (load_colR m ρ c) $$ HB; iintro HB
  iapply (Steps.load_slice 𝒱₀ (c : Thread nD τ) none rfl (hr := fun _ => rfl)) $$ Hqf; iintro Hqf
  rw [wp_ret]; imodintro
  iapply Hk
  isplitl [HA]; · iexact HA
  isplitl [HB]; · iexact HB
  isplitl [Hqf]; · iexists _; iexact Hqf
  isplitl [Hl1]; iexact Hl1; isplitl [Hl2]; iexact Hl2; iexact HO

set_option maxHeartbeats 1000000 in
theorem part4 (c : Dev nD) (w₁ w₂ w₃ : BitVec 32) (Kt : BitVec 32 → sProp (MT nD τ sig Unit (Elt F) ℕ UU ℕ)) :
    (iprop((ctx m ρ K ∗ own c aM fullShare (sA m ρ c) ∗ own c bM fullShare (sB m ρ c) ∗ any c (qf1 c) ∗ any (p2 c) (sl1 u1M) ∗ any c k0M ∗ any c k1M ∗ owesE c (owed c 9) ∗ tk 3 c)
        ∗ (∀ v, (own c aM fullShare (sA m ρ c) ∗ own c bM fullShare (sB m ρ c) ∗ own c (kf0 c) fullShare (part (k0i m ρ c) (k0_off2 c) (k0_off2_inb c)) ∗ own c (ko0 c) fullShare (part (k0i m ρ c) (k0_off8 c) (k0_off8_inb c))
            ∗ own c (kf1 c) fullShare (part (k1i m ρ c) (k0_off11 c) (k0_off11_inb c)) ∗ own c (ko1 c) fullShare (part (k1i m ρ c) (k0_off5 c) (k0_off5_inb c))
            ∗ live 5 c ∗ owesE c (owed c 8)) -∗ Kt v)) : sProp 𝕄)
      ⊢ wp frame (wpE (defs₀ (F := F)) 𝒱₀ (c : Thread nD τ) none) Set.univ (k0_part4 aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10 c w₁ w₂ w₃ (k0_pay4 (rowsA m ρ c (k0_off10 c) (k0_off10_inb c)) (colR m ρ c))) Kt := by
  simp only [k0_part4_eq_skeleton]; unfold k0_part4_skel; simp only [Prog.lift, Prog.bind_op, Prog.bind_ret, Prog.pure_eq_ret, semSignalWord, semWaitWord, wp_deviceId]
  iintro ⟨⟨#HI, HA, HB, ⟨%X0, Hq⟩, Hu, ⟨%X1, Hk0⟩, ⟨%X2, Hk1⟩, HO, Ht⟩, Hk⟩
  iapply (Steps.store_slice 𝒱₀ (c : Thread nD τ) none rfl (hr := fun _ => rfl)) $$ Hq; iintro Hq
  iapply (send_i m ρ K c 3 8 (by decide) rfl _ _ (dev6_eq c) rfl (send_sem 3 _) (recv_sem 3 _) (src₀ := qf1 c) (dst₀ := sl1 u1M) (X := q1b m ρ c)
    (hf_off c (off12_eq c) _ _) (fun _ => rfl) (own_any c (qf1 c) _)
    (Entails.of_eq (show _ = own (p2 c) (sl1 u1M) fullShare (q1b m ρ (p2 (p2 c))) by rw [p2_p2]))) $$ [Hq Hu HO Ht]
  · isplitr; iexact HI; isplitl [Hq]; iexact Hq; isplitl [Hu]; iexact Hu; isplitl [HO]; iexact HO; iexact Ht
  iintro ⟨Hl, HO⟩
  iapply (Steps.load_of 𝒱₀ (c : Thread nD τ) none) $$ HA; iintro HA
  iapply (Steps.load_of 𝒱₀ (c : Thread nD τ) none) $$ HB; iintro HB
  iapply (Steps.load_full 𝒱₀ (c : Thread nD τ) none zeros2) $$ Hk0; iintro Hk0
  iapply (Steps.store_full 𝒱₀ (c : Thread nD τ) none zeros2) $$ Hk0; iintro Hk0
  iapply (Steps.load_of 𝒱₀ (c : Thread nD τ) none) $$ HA; iintro HA
  iapply (Steps.load_of 𝒱₀ (c : Thread nD τ) none) $$ HB; iintro HB
  iapply (Steps.load_full 𝒱₀ (c : Thread nD τ) none zeros2) $$ Hk1; iintro Hk1
  iapply (Steps.store_full 𝒱₀ (c : Thread nD τ) none zeros2) $$ Hk1; iintro Hk1
  rw [wp_ret]; imodintro
  ihave H0 := (cut0 c k0M fullShare (k0i m ρ c)) $$ [Hk0]
  · iexact Hk0
  ihave H1 := (cut1 c k1M fullShare (k1i m ρ c)) $$ [Hk1]
  · iexact Hk1
  icases H0 with ⟨H0, H0'⟩
  icases H1 with ⟨H1, H1'⟩
  iapply Hk
  isplitl [HA]; iexact HA; isplitl [HB]; iexact HB; isplitl [H0]; iexact H0; isplitl [H0']; iexact H0'; isplitl [H1]; iexact H1; isplitl [H1']; iexact H1'; isplitl [Hl]; iexact Hl; iexact HO

/-! ## The sums -/

set_option maxHeartbeats 1000000 in
theorem part5 (c : Dev nD) (w₁ w₂ w₃ w₄ w₅ : BitVec 32) (Kt : _ → sProp (MT nD τ sig Unit (Elt F) ℕ UU ℕ)) :
    (iprop((ctx m ρ K ∗ live 2 c ∗ live 14 c ∗ owesE c (owed c 8) ∗ dn c 0 ∗ own c (kf0 c) fullShare (part (k0i m ρ c) (k0_off2 c) (k0_off2_inb c)))
        ∗ (∀ v, (dn c 1 ∗ any c (qf0 c) ∗ any c (us0 u0M) ∗ own c (kf0 c) fullShare (k0f m ρ c) ∗ owesE c (owed c 8)) -∗ Kt v)) : sProp 𝕄)
      ⊢ wp frame (wpE (defs₀ (F := F)) 𝒱₀ (c : Thread nD τ) none) Set.univ (k0_part5 aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10 c w₁ w₂ w₃ w₄ w₅) Kt := by
  simp only [k0_part5_eq_skeleton]; unfold k0_part5_skel; simp only [Prog.lift, Prog.bind_op, Prog.bind_ret, Prog.pure_eq_ret, semSignalWord, semWaitWord, wp_deviceId]
  iintro ⟨⟨#HI, Hs, Hr, HO, Hdn, Hx⟩, Hk⟩
  iapply (wait_send m ρ K c 0 (by decide) (send_sem 0 _) 8 (by decide)) $$ [Hs HO]
  · isplitr; iexact HI; isplitl [Hs]; iexact Hs; iexact HO
  rw [show sendPay m ρ c 0 = any c (qf0 c) from rfl]
  iintro ⟨Hz, Hq, HO⟩
  iapply (wait_recv m ρ K c 0 (by decide) (recv_sem 0 _) 8 (by decide)) $$ [Hr HO Hdn Hz]
  · isplitr; iexact HI; isplitl [Hr]; iexact Hr; isplitl [HO]; iexact HO; isplitl [Hdn]; iexact Hdn; iexact Hz
  rw [show recvPay m ρ c 0 = own c (sl0 u0M) fullShare (q0a m ρ (p1 c)) from rfl]
  iintro ⟨Hdn, Hu, HO⟩
  ihave Hu := (slot0 c u0M (q0a m ρ (p1 c))) $$ [Hu]
  · iexact Hu
  iapply (Steps.load_slice 𝒱₀ (c : Thread nD τ) none rfl (hr := fun _ => rfl)) $$ Hx; iintro Hx
  iapply (Steps.load_slice 𝒱₀ (c : Thread nD τ) none rfl (hr := fun _ => rfl)) $$ Hu; iintro Hu
  iapply (Steps.load_slice 𝒱₀ (c : Thread nD τ) none rfl (hr := fun _ => rfl)) $$ Hx; iintro Hx
  iapply (Steps.store_slice 𝒱₀ (c : Thread nD τ) none rfl (hr := fun _ => rfl)) $$ Hx; iintro Hx
  rw [wp_ret]; imodintro
  iapply Hk
  isplitl [Hdn]; · iexact Hdn
  isplitl [Hq]; · iexact Hq
  isplitl [Hu]; · iexists _; iexact Hu
  isplitl [Hx]; iexact Hx; iexact HO

set_option maxHeartbeats 1000000 in
theorem part6 (c : Dev nD) (w₁ w₂ w₃ : BitVec 32) (Kt : PUnit → sProp (MT nD τ sig Unit (Elt F) ℕ UU ℕ)) :
    (iprop((ctx m ρ K ∗ own c (kf0 c) fullShare (k0f m ρ c) ∗ any (p2 c) w0M ∗ owesE c (owed c 8) ∗ tk 4 c ∗ live 3 c ∗ live 15 c ∗ dn c 1
          ∗ own c (kf1 c) fullShare (part (k1i m ρ c) (k0_off11 c) (k0_off11_inb c)))
        ∗ ((live 6 c ∗ dn c 2 ∗ any c (qo1 c) ∗ any c (us0 u1M) ∗ own c (kf1 c) fullShare (k1f m ρ c) ∗ owesE c (owed c 7)) -∗ Kt ⟨⟩)) : sProp 𝕄)
      ⊢ wp frame (wpE (defs₀ (F := F)) 𝒱₀ (c : Thread nD τ) none) Set.univ (k0_part6 aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10 c w₁ w₂ w₃) Kt := by
  simp only [k0_part6_eq_skeleton]; unfold k0_part6_skel; simp only [Prog.lift, Prog.bind_op, Prog.bind_ret, Prog.pure_eq_ret, semSignalWord, semWaitWord, wp_deviceId]
  iintro ⟨⟨#HI, Hx, Hw, HO, Ht, Hs, Hr, Hdn, Hy⟩, Hk⟩
  iapply (send_i_away m ρ K c 4 7 (by decide) rfl _ _ (dev7_eq c) rfl (send_sem 4 _) (recv_sem 4 _) (src₀ := kf0 c) (dst₀ := w0M) (X := k0f m ρ c)
    (hf_off c (off3_eq c) _ _) (fun _ => rfl) .rfl (away4 m ρ c)) $$ [Hx Hw HO Ht]
  · isplitr; iexact HI; isplitl [Hx]; iexact Hx; isplitl [Hw]; iexact Hw; isplitl [HO]; iexact HO; iexact Ht
  iintro ⟨Hl, HO⟩
  iapply (wait_send m ρ K c 1 (by decide) (send_sem 1 _) 7 (by decide)) $$ [Hs HO]
  · isplitr; iexact HI; isplitl [Hs]; iexact Hs; iexact HO
  rw [show sendPay m ρ c 1 = any c (qo1 c) from rfl]
  iintro ⟨Hz, Hq, HO⟩
  iapply (wait_recv m ρ K c 1 (by decide) (recv_sem 1 _) 7 (by decide)) $$ [Hr HO Hdn Hz]
  · isplitr; iexact HI; isplitl [Hr]; iexact Hr; isplitl [HO]; iexact HO; isplitl [Hdn]; iexact Hdn; iexact Hz
  rw [show recvPay m ρ c 1 = own c (sl0 u1M) fullShare (q1a m ρ (p2 c)) from rfl]
  iintro ⟨Hdn, Hu, HO⟩
  ihave Hu := (slot0 c u1M (q1a m ρ (p2 c))) $$ [Hu]
  · iexact Hu
  iapply (Steps.load_slice 𝒱₀ (c : Thread nD τ) none rfl (hr := fun _ => rfl)) $$ Hy; iintro Hy
  iapply (Steps.load_slice 𝒱₀ (c : Thread nD τ) none rfl (hr := fun _ => rfl)) $$ Hu; iintro Hu
  iapply (Steps.load_slice 𝒱₀ (c : Thread nD τ) none rfl (hr := fun _ => rfl)) $$ Hy; iintro Hy
  iapply (Steps.store_slice 𝒱₀ (c : Thread nD τ) none rfl (hr := fun _ => rfl)) $$ Hy; iintro Hy
  rw [wp_ret]; imodintro
  iapply Hk
  isplitl [Hl]; · iexact Hl
  isplitl [Hdn]; · iexact Hdn
  isplitl [Hq]; · iexact Hq
  isplitl [Hu]; · iexists _; iexact Hu
  isplitl [Hy]; iexact Hy; iexact HO

set_option maxHeartbeats 1000000 in
theorem part7 (c : Dev nD) (w₁ w₂ : BitVec 32) (Kt : PUnit → sProp (MT nD τ sig Unit (Elt F) ℕ UU ℕ)) :
    (iprop((ctx m ρ K ∗ own c (kf1 c) fullShare (k1f m ρ c) ∗ any (p1 c) w1M ∗ owesE c (owed c 7) ∗ tk 5 c ∗ live 4 c ∗ live 16 c ∗ dn c 2
          ∗ own c (ko0 c) fullShare (part (k0i m ρ c) (k0_off8 c) (k0_off8_inb c)) ∗ live 5 c)
        ∗ ((live 7 c ∗ dn c 3 ∗ any c (qo0 c) ∗ any c (us1 u0M) ∗ own c (ko0 c) fullShare (k0o m ρ c) ∗ semVal (dcell c 5) 0 ∗ any c (qf1 c)
            ∗ owesE c (owed c 6)) -∗ Kt ⟨⟩)) : sProp 𝕄)
      ⊢ wp frame (wpE (defs₀ (F := F)) 𝒱₀ (c : Thread nD τ) none) Set.univ (k0_part7 aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10 c w₁ w₂) Kt := by
  simp only [k0_part7_eq_skeleton]; unfold k0_part7_skel; simp only [Prog.lift, Prog.bind_op, Prog.bind_ret, Prog.pure_eq_ret, semSignalWord, semWaitWord, wp_deviceId]
  iintro ⟨⟨#HI, Hx, Hw, HO, Ht, Hs, Hr, Hdn, Hy, Hs'⟩, Hk⟩
  iapply (send_i_away m ρ K c 5 6 (by decide) rfl _ _ (dev8_eq c) rfl (send_sem 5 _) (recv_sem 5 _) (src₀ := kf1 c) (dst₀ := w1M) (X := k1f m ρ c)
    (hf_off c (off12_eq c) _ _) (fun _ => rfl) .rfl (away5 m ρ c)) $$ [Hx Hw HO Ht]
  · isplitr; iexact HI; isplitl [Hx]; iexact Hx; isplitl [Hw]; iexact Hw; isplitl [HO]; iexact HO; iexact Ht
  iintro ⟨Hl, HO⟩
  iapply (wait_send m ρ K c 2 (by decide) (send_sem 2 _) 6 (by decide)) $$ [Hs HO]
  · isplitr; iexact HI; isplitl [Hs]; iexact Hs; iexact HO
  rw [show sendPay m ρ c 2 = any c (qo0 c) from rfl]
  iintro ⟨Hz, Hq, HO⟩
  iapply (wait_recv m ρ K c 2 (by decide) (recv_sem 2 _) 6 (by decide)) $$ [Hr HO Hdn Hz]
  · isplitr; iexact HI; isplitl [Hr]; iexact Hr; isplitl [HO]; iexact HO; isplitl [Hdn]; iexact Hdn; iexact Hz
  rw [show recvPay m ρ c 2 = own c (sl1 u0M) fullShare (q0b m ρ (p1 c)) from rfl]
  iintro ⟨Hdn, Hu, HO⟩
  ihave Hu := (slot1 c u0M (q0b m ρ (p1 c))) $$ [Hu]
  · iexact Hu
  iapply (Steps.load_slice 𝒱₀ (c : Thread nD τ) none rfl (hr := fun _ => rfl)) $$ Hy; iintro Hy
  iapply (Steps.load_slice 𝒱₀ (c : Thread nD τ) none rfl (hr := fun _ => rfl)) $$ Hu; iintro Hu
  iapply (Steps.load_slice 𝒱₀ (c : Thread nD τ) none rfl (hr := fun _ => rfl)) $$ Hy; iintro Hy
  iapply (Steps.store_slice 𝒱₀ (c : Thread nD τ) none rfl (hr := fun _ => rfl)) $$ Hy; iintro Hy
  iapply (wait_send m ρ K c 3 (by decide) (send_sem 3 _) 6 (by decide)) $$ [Hs' HO]
  · isplitr; iexact HI; isplitl [Hs']; iexact Hs'; iexact HO
  rw [show sendPay m ρ c 3 = any c (qf1 c) from rfl]
  iintro ⟨Hz, Hq', HO⟩
  rw [wp_ret]; imodintro
  iapply Hk
  isplitl [Hl]; · iexact Hl
  isplitl [Hdn]; · iexact Hdn
  isplitl [Hq]; · iexact Hq
  isplitl [Hu]; · iexists _; iexact Hu
  isplitl [Hy]; iexact Hy; isplitl [Hz]; iexact Hz; isplitl [Hq']; iexact Hq'; iexact HO

set_option maxHeartbeats 1000000 in
theorem part8 (c : Dev nD) (w₁ w₂ w₃ : BitVec 32) (Kt : FVec F S512x1024 .f32 → sProp (MT nD τ sig Unit (Elt F) ℕ UU ℕ)) :
    (iprop((ctx m ρ K ∗ live 17 c ∗ dn c 3 ∗ semVal (dcell c 5) 0 ∗ own c (ko1 c) fullShare (part (k1i m ρ c) (k0_off5 c) (k0_off5_inb c))
          ∗ live 6 c ∗ live 18 c ∗ own c (ko0 c) fullShare (k0o m ρ c) ∗ owesE c (owed c 6))
        ∗ ((dn c 5 ∗ any c (us1 u1M) ∗ own c (ko1 c) fullShare (k1o m ρ c) ∗ any c w0M ∗ any (p2 c) (kf0 (p2 c)) ∗ own c (ko0 c) fullShare (k0o m ρ c)
            ∗ owesE c (owed c 6)) -∗ Kt (k0_pay12 (k0o m ρ c) (k0f m ρ (p2 c))))) : sProp 𝕄)
      ⊢ wp frame (wpE (defs₀ (F := F)) 𝒱₀ (c : Thread nD τ) none) Set.univ (k0_part8 aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10 c w₁ w₂ w₃) Kt := by
  simp only [k0_part8_eq_skeleton]; unfold k0_part8_skel; simp only [Prog.lift, Prog.bind_op, Prog.bind_ret, Prog.pure_eq_ret, semSignalWord, semWaitWord, wp_deviceId]
  iintro ⟨⟨#HI, Hr, Hdn, Hz, Hy, Hs, Hr', Hx, HO⟩, Hk⟩
  iapply (wait_recv m ρ K c 3 (by decide) (recv_sem 3 _) 6 (by decide)) $$ [Hr HO Hdn Hz]
  · isplitr; iexact HI; isplitl [Hr]; iexact Hr; isplitl [HO]; iexact HO; isplitl [Hdn]; iexact Hdn; iexact Hz
  rw [show recvPay m ρ c 3 = own c (sl1 u1M) fullShare (q1b m ρ (p2 c)) from rfl]
  iintro ⟨Hdn, Hu, HO⟩
  ihave Hu := (slot1 c u1M (q1b m ρ (p2 c))) $$ [Hu]
  · iexact Hu
  iapply (Steps.load_slice 𝒱₀ (c : Thread nD τ) none rfl (hr := fun _ => rfl)) $$ Hy; iintro Hy
  iapply (Steps.load_slice 𝒱₀ (c : Thread nD τ) none rfl (hr := fun _ => rfl)) $$ Hu; iintro Hu
  iapply (Steps.load_slice 𝒱₀ (c : Thread nD τ) none rfl (hr := fun _ => rfl)) $$ Hy; iintro Hy
  iapply (Steps.store_slice 𝒱₀ (c : Thread nD τ) none rfl (hr := fun _ => rfl)) $$ Hy; iintro Hy
  iapply (wait_send m ρ K c 4 (by decide) (send_sem 4 _) 6 (by decide)) $$ [Hs HO]
  · isplitr; iexact HI; isplitl [Hs]; iexact Hs; iexact HO
  iintro ⟨Hz, -, HO⟩
  iapply (wait_recv m ρ K c 4 (by decide) (recv_sem 4 _) 6 (by decide)) $$ [Hr' HO Hdn Hz]
  · isplitr; iexact HI; isplitl [Hr']; iexact Hr'; isplitl [HO]; iexact HO; isplitl [Hdn]; iexact Hdn; iexact Hz
  rw [show recvPay m ρ c 4 = iprop(own c w0M fullShare (k0f m ρ (p2 c)) ∗ any (p2 c) (kf0 (p2 c))) from rfl]
  iintro ⟨Hdn, ⟨Hw, Hp⟩, HO⟩
  iapply (Steps.load_slice 𝒱₀ (c : Thread nD τ) none rfl (hr := fun _ => rfl)) $$ Hx; iintro Hx
  iapply (Steps.load_full 𝒱₀ (c : Thread nD τ) none zeros2) $$ Hw; iintro Hw
  iapply (Steps.load_slice 𝒱₀ (c : Thread nD τ) none rfl (hr := fun _ => rfl)) $$ Hx; iintro Hx
  rw [wp_ret]; imodintro
  iapply Hk
  isplitl [Hdn]; · iexact Hdn
  isplitl [Hu]; · iexists _; iexact Hu
  isplitl [Hy]; · iexact Hy
  isplitl [Hw]; · iexists _; iexact Hw
  isplitl [Hp]; iexact Hp; isplitl [Hx]; iexact Hx; iexact HO

set_option maxHeartbeats 1000000 in
theorem part9 (c : Dev nD) (w₁ w₂ w₃ : BitVec 32) (Kt : PUnit → sProp (MT nD τ sig Unit (Elt F) ℕ UU ℕ)) :
    (iprop((ctx m ρ K ∗ own c (ko0 c) fullShare (k0o m ρ c) ∗ any (p2 c) (kf0 (p2 c)) ∗ owesE c (owed c 6) ∗ tk 6 c ∗ live 7 c ∗ live 19 c ∗ dn c 5
          ∗ own c (ko1 c) fullShare (k1o m ρ c))
        ∗ ((own c (ko0 c) rgt (k0F m ρ c) ∗ live 8 c ∗ dn c 6 ∗ any c w1M ∗ any (p1 c) (kf1 (p1 c)) ∗ own c (ko1 c) fullShare (k1F m ρ c)
            ∗ owesE c (owed c 5)) -∗ Kt ⟨⟩)) : sProp 𝕄)
      ⊢ wp frame (wpE (defs₀ (F := F)) 𝒱₀ (c : Thread nD τ) none) Set.univ (k0_part9 aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10 c w₁ w₂ w₃ (k0_pay12 (k0o m ρ c) (k0f m ρ (p2 c)))) Kt := by
  simp only [k0_part9_eq_skeleton]; unfold k0_part9_skel; simp only [Prog.lift, Prog.bind_op, Prog.bind_ret, Prog.pure_eq_ret, semSignalWord, semWaitWord, wp_deviceId]
  iintro ⟨⟨#HI, Hx, Hp, HO, Ht, Hs, Hr, Hdn, Hy⟩, Hk⟩
  iapply (Steps.store_slice 𝒱₀ (c : Thread nD τ) none rfl (hr := fun _ => rfl)) $$ Hx; iintro Hx
  ihave Hx := (owns_halves (c : Thread nD τ) (ko0 c) fullShare (k0F m ρ c)).1 $$ [Hx]
  · iexact Hx
  icases Hx with ⟨Hx, Hx'⟩
  iapply (send_i m ρ K c 6 5 (by decide) rfl _ _ (dev9_eq c) rfl (send_sem 6 _) (recv_sem 6 _) (src₀ := ko0 c) (dst₀ := kf0 (p2 c)) (q := lft) (X := k0F m ρ c)
    (hf_off c (off9_eq c) _ _) (fun _ => hf_off (p2 c) (off9_far c) _ _) .rfl
    (Entails.of_eq (show _ = own (p2 c) (kf0 (p2 c)) fullShare (k0F m ρ (p2 (p2 c))) by rw [p2_p2 c]))) $$ [Hx Hp HO Ht]
  · isplitr; iexact HI; isplitl [Hx]; iexact Hx; isplitl [Hp]; iexact Hp; isplitl [HO]; iexact HO; iexact Ht
  iintro ⟨Hl, HO⟩
  iapply (wait_send m ρ K c 5 (by decide) (send_sem 5 _) 5 (by decide)) $$ [Hs HO]
  · isplitr; iexact HI; isplitl [Hs]; iexact Hs; iexact HO
  iintro ⟨Hz, -, HO⟩
  iapply (wait_recv m ρ K c 5 (by decide) (recv_sem 5 _) 5 (by decide)) $$ [Hr HO Hdn Hz]
  · isplitr; iexact HI; isplitl [Hr]; iexact Hr; isplitl [HO]; iexact HO; isplitl [Hdn]; iexact Hdn; iexact Hz
  rw [show recvPay m ρ c 5 = iprop(own c w1M fullShare (k1f m ρ (p1 c)) ∗ any (p1 c) (kf1 (p1 c))) from rfl]
  iintro ⟨Hdn, ⟨Hw, Hp⟩, HO⟩
  iapply (Steps.load_slice 𝒱₀ (c : Thread nD τ) none rfl (hr := fun _ => rfl)) $$ Hy; iintro Hy
  iapply (Steps.load_full 𝒱₀ (c : Thread nD τ) none zeros2) $$ Hw; iintro Hw
  iapply (Steps.load_slice 𝒱₀ (c : Thread nD τ) none rfl (hr := fun _ => rfl)) $$ Hy; iintro Hy
  iapply (Steps.store_slice 𝒱₀ (c : Thread nD τ) none rfl (hr := fun _ => rfl)) $$ Hy; iintro Hy
  rw [wp_ret]; imodintro
  iapply Hk
  isplitl [Hx']; · iexact Hx'
  isplitl [Hl]; · iexact Hl
  isplitl [Hdn]; · iexact Hdn
  isplitl [Hw]; · iexists _; iexact Hw
  isplitl [Hp]; iexact Hp; isplitl [Hy]; iexact Hy; iexact HO

end Cert.KernelIdealProof

end
-- ==== Proof.KernelIdealParts3.lean ====
/-
  The last parts of the body: the finished groups sent round and copied out.
-/
module

public import proofs.«01_k».proof.Proof.KernelIdealParts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 27 → ℕ)

set_option maxHeartbeats 1000000 in
theorem part10 (c : Dev nD) (w₁ w₂ w₃ w₄ w₅ w₆ w₇ : BitVec 32) (Kt : PUnit → sProp (MT nD τ sig Unit (Elt F) ℕ UU ℕ)) :
    (iprop((ctx m ρ K ∗ own c (ko1 c) fullShare (k1F m ρ c) ∗ any (p1 c) (kf1 (p1 c)) ∗ own c (ko0 c) rgt (k0F m ρ c) ∗ any (p1 c) (g15 c) ∗ any (p2 c) (g16 c)
          ∗ owesE c (owed c 5) ∗ tk 7 c ∗ tk 8 c ∗ tk 9 c)
        ∗ ((live 9 c ∗ live 10 c ∗ live 11 c ∗ owesE c (owed c 2)) -∗ Kt ⟨⟩)) : sProp 𝕄)
      ⊢ wp frame (wpE (defs₀ (F := F)) 𝒱₀ (c : Thread nD τ) none) Set.univ (k0_part10 aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10 c w₁ w₂ w₃ w₄ w₅ w₆ w₇) Kt := by
  simp only [k0_part10_eq_skeleton]; unfold k0_part10_skel; simp only [Prog.lift, Prog.bind_op, Prog.bind_ret, Prog.pure_eq_ret, semSignalWord, semWaitWord, wp_deviceId]
  iintro ⟨⟨#HI, Hy, Hp, Hx, Hg, Hg', HO, Ht7, Ht8, Ht9⟩, Hk⟩
  ihave Hy := (owns_halves (c : Thread nD τ) (ko1 c) fullShare (k1F m ρ c)).1 $$ [Hy]
  · iexact Hy
  icases Hy with ⟨Hy, Hy'⟩
  iapply (send_i m ρ K c 7 4 (by decide) rfl _ _ (dev10_eq c) rfl (send_sem 7 _) (recv_sem 7 _) (src₀ := ko1 c) (dst₀ := kf1 (p1 c)) (q := lft) (X := k1F m ρ c)
    (hf_off c (off6_eq c) _ _) (fun _ => hf_off (p1 c) (off6_far c) _ _) .rfl
    (Entails.of_eq (show _ = own (p1 c) (kf1 (p1 c)) fullShare (k1F m ρ (p1 (p1 c))) by rw [p1_p1 c]))) $$ [Hy Hp HO Ht7]
  · isplitr; iexact HI; isplitl [Hy]; iexact Hy; isplitl [Hp]; iexact Hp; isplitl [HO]; iexact HO; iexact Ht7
  iintro ⟨Hl7, HO⟩
  iapply (send_i m ρ K c 8 3 (by decide) rfl _ _ (dev11_eq c) rfl (send_sem 8 _) (recv_sem 8 _) (src₀ := ko0 c) (dst₀ := g15 c) (q := rgt) (X := k0F m ρ c)
    (hf_off c (off9_eq c) _ _) (fun _ => rfl) .rfl
    (Entails.of_eq (show _ = own (p1 c) (g15 (p1 (p1 c))) fullShare (k0F m ρ (p1 (p1 c))) by rw [p1_p1 c]))) $$ [Hx Hg HO Ht8]
  · isplitr; iexact HI; isplitl [Hx]; iexact Hx; isplitl [Hg]; iexact Hg; isplitl [HO]; iexact HO; iexact Ht8
  iintro ⟨Hl8, HO⟩
  iapply (send_i m ρ K c 9 2 (by decide) rfl _ _ (dev12_eq c) rfl (send_sem 9 _) (recv_sem 9 _) (src₀ := ko1 c) (dst₀ := g16 c) (q := rgt) (X := k1F m ρ c)
    (hf_off c (off6_eq c) _ _) (fun _ => rfl) .rfl
    (Entails.of_eq (show _ = own (p2 c) (g16 (p2 (p2 c))) fullShare (k1F m ρ (p2 (p2 c))) by rw [p2_p2 c]))) $$ [Hy' Hg' HO Ht9]
  · isplitr; iexact HI; isplitl [Hy']; iexact Hy'; isplitl [Hg']; iexact Hg'; isplitl [HO]; iexact HO; iexact Ht9
  iintro ⟨Hl9, HO⟩
  rw [wp_ret]; imodintro
  iapply Hk
  isplitl [Hl7]; iexact Hl7; isplitl [Hl8]; iexact Hl8; isplitl [Hl9]; iexact Hl9; iexact HO

set_option maxHeartbeats 1000000 in
theorem part11 (c : Dev nD) (w₁ w₂ : BitVec 32) (Kt : PUnit → sProp (MT nD τ sig Unit (Elt F) ℕ UU ℕ)) :
    (iprop((ctx m ρ K ∗ live 8 c ∗ live 20 c ∗ dn c 6 ∗ owesE c (owed c 2) ∗ any (p1 c) (g17 c) ∗ tk 10 c ∗ any c (g18 c) ∗ cp 0 c ∗ live 9 c ∗ live 21 c)
        ∗ ((live 12 c ∗ dn c 8 ∗ live 26 c ∗ own c (ko1 c) lft (k1F m ρ c) ∗ own c (kf1 c) fullShare (k1F m ρ (p1 c)) ∗ owesE c (owed c 1)) -∗ Kt ⟨⟩)) : sProp 𝕄)
      ⊢ wp frame (wpE (defs₀ (F := F)) 𝒱₀ (c : Thread nD τ) none) Set.univ (k0_part11 aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10 c w₁ w₂) Kt := by
  simp only [k0_part11_eq_skeleton]; unfold k0_part11_skel; simp only [Prog.lift, Prog.bind_op, Prog.bind_ret, Prog.pure_eq_ret, semSignalWord, semWaitWord, wp_deviceId]
  iintro ⟨⟨#HI, Hs, Hr, Hdn, HO, Hg, Ht, Hc, Hcp, Hs', Hr'⟩, Hk⟩
  iapply (wait_send m ρ K c 6 (by decide) (send_sem 6 _) 2 (by decide)) $$ [Hs HO]
  · isplitr; iexact HI; isplitl [Hs]; iexact Hs; iexact HO
  rw [show sendPay m ρ c 6 = own c (ko0 c) lft (k0F m ρ c) from rfl]
  iintro ⟨Hz, Ho, HO⟩
  iapply (wait_recv m ρ K c 6 (by decide) (recv_sem 6 _) 2 (by decide)) $$ [Hr HO Hdn Hz]
  · isplitr; iexact HI; isplitl [Hr]; iexact Hr; isplitl [HO]; iexact HO; isplitl [Hdn]; iexact Hdn; iexact Hz
  rw [show recvPay m ρ c 6 = own c (kf0 c) fullShare (k0F m ρ (p2 c)) from rfl]
  iintro ⟨Hdn, Hf, HO⟩
  ihave Hf := (owns_halves (c : Thread nD τ) (kf0 c) fullShare (k0F m ρ (p2 c))).1 $$ [Hf]
  · iexact Hf
  icases Hf with ⟨Hf, Hf'⟩
  iapply (send_i m ρ K c 10 1 (by decide) rfl _ _ (dev13_eq c) rfl (send_sem 10 _) (recv_sem 10 _) (src₀ := kf0 c) (dst₀ := g17 c) (q := rgt) (X := k0F m ρ (p2 c))
    (hf_off c (off3_eq c) _ _) (fun _ => rfl) .rfl
    (Entails.of_eq (show _ = own (p1 c) (g17 (p1 (p1 c))) fullShare (k0F m ρ (p2 (p1 (p1 c)))) by rw [p1_p1 c]))) $$ [Hf' Hg HO Ht]
  · isplitr; iexact HI; isplitl [Hf']; iexact Hf'; isplitl [Hg]; iexact Hg; isplitl [HO]; iexact HO; iexact Ht
  iintro ⟨Hl, HO⟩
  ihave HX := (glue0 c k0M lft (k0F m ρ (p2 c)) (k0F m ρ c)) $$ [Hf Ho]
  · isplitl [Hf]; · iexact Hf
    iexact Ho
  icases HX with ⟨%X, %hX, HX⟩
  iapply (copy_i m ρ K c 0 (by decide) (copy_sem 0 _) (dst := g18 c) (q := lft) (X := X) (copied0 m ρ c X hX)) $$ [HX Hc Hcp]
  · isplitr; iexact HI; isplitl [HX]; iexact HX; isplitl [Hc]; iexact Hc; iexact Hcp
  iintro Hlc
  iapply (wait_send m ρ K c 7 (by decide) (send_sem 7 _) 1 (by decide)) $$ [Hs' HO]
  · isplitr; iexact HI; isplitl [Hs']; iexact Hs'; iexact HO
  rw [show sendPay m ρ c 7 = own c (ko1 c) lft (k1F m ρ c) from rfl]
  iintro ⟨Hz, Ho, HO⟩
  iapply (wait_recv m ρ K c 7 (by decide) (recv_sem 7 _) 1 (by decide)) $$ [Hr' HO Hdn Hz]
  · isplitr; iexact HI; isplitl [Hr']; iexact Hr'; isplitl [HO]; iexact HO; isplitl [Hdn]; iexact Hdn; iexact Hz
  rw [show recvPay m ρ c 7 = own c (kf1 c) fullShare (k1F m ρ (p1 c)) from rfl]
  iintro ⟨Hdn, Hf, HO⟩
  rw [wp_ret]; imodintro
  iapply Hk
  isplitl [Hl]; iexact Hl; isplitl [Hdn]; iexact Hdn; isplitl [Hlc]; iexact Hlc; isplitl [Ho]; iexact Ho; isplitl [Hf]; iexact Hf; iexact HO

set_option maxHeartbeats 1000000 in
theorem part12 (c : Dev nD) (w₁ w₂ : BitVec 32) (Kt : PUnit → sProp (MT nD τ sig Unit (Elt F) ℕ UU ℕ)) :
    (iprop((ctx m ρ K ∗ own c (ko1 c) lft (k1F m ρ c) ∗ own c (kf1 c) fullShare (k1F m ρ (p1 c)) ∗ any (p2 c) (g19 c) ∗ owesE c (owed c 1) ∗ tk 11 c ∗ any c (g20 c) ∗ cp 1 c
          ∗ live 10 c ∗ live 22 c ∗ dn c 8 ∗ live 11 c)
        ∗ ((live 13 c ∗ live 27 c ∗ dn c 9 ∗ own c (ko0 c) rgt (k0F m ρ c) ∗ own c (g15 (p1 c)) fullShare (k0F m ρ (p1 c)) ∗ semVal (dcell c 11) 0
            ∗ own c (ko1 c) rgt (k1F m ρ c) ∗ owesE c (owed c 0)) -∗ Kt ⟨⟩)) : sProp 𝕄)
      ⊢ wp frame (wpE (defs₀ (F := F)) 𝒱₀ (c : Thread nD τ) none) Set.univ (k0_part12 aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10 c w₁ w₂) Kt := by
  simp only [k0_part12_eq_skeleton]; unfold k0_part12_skel; simp only [Prog.lift, Prog.bind_op, Prog.bind_ret, Prog.pure_eq_ret, semSignalWord, semWaitWord, wp_deviceId]
  iintro ⟨⟨#HI, Ho, Hf, Hg, HO, Ht, Hc, Hcp, Hs, Hr, Hdn, Hs'⟩, Hk⟩
  ihave Hf := (owns_halves (c : Thread nD τ) (kf1 c) fullShare (k1F m ρ (p1 c))).1 $$ [Hf]
  · iexact Hf
  icases Hf with ⟨Hf, Hf'⟩
  iapply (send_i m ρ K c 11 0 (by decide) rfl _ _ (dev14_eq c) rfl (send_sem 11 _) (recv_sem 11 _) (src₀ := kf1 c) (dst₀ := g19 c) (q := rgt) (X := k1F m ρ (p1 c))
    (hf_off c (off12_eq c) _ _) (fun _ => rfl) .rfl
    (Entails.of_eq (show _ = own (p2 c) (g19 (p2 (p2 c))) fullShare (k1F m ρ (p1 (p2 (p2 c)))) by rw [p2_p2 c]))) $$ [Hf' Hg HO Ht]
  · isplitr; iexact HI; isplitl [Hf']; iexact Hf'; isplitl [Hg]; iexact Hg; isplitl [HO]; iexact HO; iexact Ht
  iintro ⟨Hl, HO⟩
  ihave HX := (glue1 c k1M lft (k1F m ρ (p1 c)) (k1F m ρ c)) $$ [Hf Ho]
  · isplitl [Hf]; · iexact Hf
    iexact Ho
  icases HX with ⟨%X, %hX, HX⟩
  iapply (copy_i m ρ K c 1 (by decide) (copy_sem 1 _) (dst := g20 c) (q := lft) (X := X) (copied1 m ρ c X hX)) $$ [HX Hc Hcp]
  · isplitr; iexact HI; isplitl [HX]; iexact HX; isplitl [Hc]; iexact Hc; iexact Hcp
  iintro Hlc
  iapply (wait_send m ρ K c 8 (by decide) (send_sem 8 _) 0 (by decide)) $$ [Hs HO]
  · isplitr; iexact HI; isplitl [Hs]; iexact Hs; iexact HO
  rw [show sendPay m ρ c 8 = own c (ko0 c) rgt (k0F m ρ c) from rfl]
  iintro ⟨Hz, Ho, HO⟩
  iapply (wait_recv m ρ K c 8 (by decide) (recv_sem 8 _) 0 (by decide)) $$ [Hr HO Hdn Hz]
  · isplitr; iexact HI; isplitl [Hr]; iexact Hr; isplitl [HO]; iexact HO; isplitl [Hdn]; iexact Hdn; iexact Hz
  rw [show recvPay m ρ c 8 = own c (g15 (p1 c)) fullShare (k0F m ρ (p1 c)) from rfl]
  iintro ⟨Hdn, Hg, HO⟩
  iapply (wait_send m ρ K c 9 (by decide) (send_sem 9 _) 0 (by decide)) $$ [Hs' HO]
  · isplitr; iexact HI; isplitl [Hs']; iexact Hs'; iexact HO
  rw [show sendPay m ρ c 9 = own c (ko1 c) rgt (k1F m ρ c) from rfl]
  iintro ⟨Hz, Ho', HO⟩
  rw [wp_ret]; imodintro
  iapply Hk
  isplitl [Hl]; iexact Hl; isplitl [Hlc]; iexact Hlc; isplitl [Hdn]; iexact Hdn; isplitl [Ho]; iexact Ho; isplitl [Hg]; iexact Hg; isplitl [Hz]; iexact Hz; isplitl [Ho']; iexact Ho'; iexact HO

set_option maxHeartbeats 1000000 in
theorem part13 (c : Dev nD) (w₁ w₂ : BitVec 32) (Kt : PUnit → sProp (MT nD τ sig Unit (Elt F) ℕ UU ℕ)) :
    (iprop((ctx m ρ K ∗ live 23 c ∗ dn c 9 ∗ semVal (dcell c 11) 0 ∗ owesE c (owed c 0) ∗ live 12 c ∗ live 24 c ∗ live 13 c ∗ live 25 c ∗ live 26 c)
        ∗ ((dn c 12 ∗ recvPay m ρ c 9 ∗ sendPay m ρ c 10 ∗ recvPay m ρ c 10 ∗ sendPay m ρ c 11 ∗ recvPay m ρ c 11 ∗ semVal (dcell c 26) 0 ∗ copyPay m ρ c 0
            ∗ owesE c (owed c 0)) -∗ Kt ⟨⟩)) : sProp 𝕄)
      ⊢ wp frame (wpE (defs₀ (F := F)) 𝒱₀ (c : Thread nD τ) none) Set.univ (k0_part13 aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10 c w₁ w₂) Kt := by
  simp only [k0_part13_eq_skeleton]; unfold k0_part13_skel; simp only [Prog.lift, Prog.bind_op, Prog.bind_ret, Prog.pure_eq_ret, semSignalWord, semWaitWord, wp_deviceId]
  iintro ⟨⟨#HI, Hr, Hdn, Hz, HO, Hs10, Hr10, Hs11, Hr11, Hc⟩, Hk⟩
  iapply (wait_recv m ρ K c 9 (by decide) (recv_sem 9 _) 0 (by decide)) $$ [Hr HO Hdn Hz]
  · isplitr; iexact HI; isplitl [Hr]; iexact Hr; isplitl [HO]; iexact HO; isplitl [Hdn]; iexact Hdn; iexact Hz
  iintro ⟨Hdn, Hg9, HO⟩
  iapply (wait_send m ρ K c 10 (by decide) (send_sem 10 _) 0 (by decide)) $$ [Hs10 HO]
  · isplitr; iexact HI; isplitl [Hs10]; iexact Hs10; iexact HO
  iintro ⟨Hz, Hf10, HO⟩
  iapply (wait_recv m ρ K c 10 (by decide) (recv_sem 10 _) 0 (by decide)) $$ [Hr10 HO Hdn Hz]
  · isplitr; iexact HI; isplitl [Hr10]; iexact Hr10; isplitl [HO]; iexact HO; isplitl [Hdn]; iexact Hdn; iexact Hz
  iintro ⟨Hdn, Hg10, HO⟩
  iapply (wait_send m ρ K c 11 (by decide) (send_sem 11 _) 0 (by decide)) $$ [Hs11 HO]
  · isplitr; iexact HI; isplitl [Hs11]; iexact Hs11; iexact HO
  iintro ⟨Hz, Hf11, HO⟩
  iapply (wait_recv m ρ K c 11 (by decide) (recv_sem 11 _) 0 (by decide)) $$ [Hr11 HO Hdn Hz]
  · isplitr; iexact HI; isplitl [Hr11]; iexact Hr11; isplitl [HO]; iexact HO; isplitl [Hdn]; iexact Hdn; iexact Hz
  iintro ⟨Hdn, Hg11, HO⟩
  iapply (wait_dma m ρ K c 26 (by decide) (by decide) (copy_sem 0 _) 0 (by decide) (by decide) (credit_N2 _)) $$ [Hc HO]
  · isplitr; iexact HI; isplitl [Hc]; iexact Hc; iexact HO
  rw [show dpay m ρ c 26 = copyPay m ρ c 0 from dpay_copy m ρ c 0]
  iintro ⟨Hzc, Hpc, HO⟩
  rw [wp_ret]; imodintro
  iapply Hk
  isplitl [Hdn]; iexact Hdn; isplitl [Hg9]; iexact Hg9; isplitl [Hf10]; iexact Hf10; isplitl [Hg10]; iexact Hg10; isplitl [Hf11]; iexact Hf11; isplitl [Hg11]; iexact Hg11; isplitl [Hzc]; iexact Hzc; isplitl [Hpc]; iexact Hpc; iexact HO

end Cert.KernelIdealProof

end
-- ==== Proof.KernelIdealBody.lean ====
/-
  The whole body on one device: what it starts from, its thirteen pieces in order, and what it ends with.
-/
module

public import proofs.«01_k».proof.Proof.KernelIdealParts2
public import proofs.«01_k».proof.Proof.KernelIdealParts3

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 27 → ℕ)

/-! ## Buffers cut and put together -/

section Buffers
variable (c : Dev nD)

theorem split_slots (M : Memref sig .tc .vmem S2x512x1024 .f32) : any (F := F) c M ⊢ iprop(any c (sl0 M) ∗ any c (sl1 M)) := by
  iintro ⟨%X, H⟩
  ihave H2 := (Steps.owns_split2 (h₁ := fun _ => rfl) (h₂ := fun _ => rfl) (c : Thread nD τ) slots_disjoint slots_cover X) $$ H
  icases H2 with ⟨H1, H2⟩
  isplitl [H1]
  · iexists _
    iapply (Steps.owns_unsqueeze (c : Thread nD τ) squeezes_S1x512x1024_S512x1024 fullShare _)
    iexact H1
  · iexists _
    iapply (Steps.owns_unsqueeze (c : Thread nD τ) squeezes_S1x512x1024_S512x1024 fullShare _)
    iexact H2

theorem join_slots (M : Memref sig .tc .vmem S2x512x1024 .f32) : iprop(any (F := F) c (us0 M) ∗ any c (us1 M)) ⊢ any c M := by
  have J := Steps.any_join2 (Ix := Unit) (Name := ℕ) (U := UU) (Lvl := ℕ) (Val := Elt F) (c : Thread nD τ) (m := M) (q := fullShare) (h₁ := fun _ => rfl) (h₂ := fun _ => rfl)
    slots_disjoint slots_cover
  exact J

theorem split0 (M : Memref sig .tc .vmem S1024x1024 .f32) :
    any (F := F) c M ⊢ iprop(any c (hf M (k0_off2 c) (k0_off2_inb c)) ∗ any c (hf M (k0_off8 c) (k0_off8_inb c))) := by
  iintro ⟨%X, H⟩
  ihave H2 := (cut0 c M fullShare X) $$ H
  icases H2 with ⟨H1, H2⟩
  isplitl [H1]
  · iexists _; iexact H1
  · iexists _; iexact H2
theorem split1 (M : Memref sig .tc .vmem S1024x1024 .f32) :
    any (F := F) c M ⊢ iprop(any c (hf M (k0_off11 c) (k0_off11_inb c)) ∗ any c (hf M (k0_off5 c) (k0_off5_inb c))) := by
  iintro ⟨%X, H⟩
  ihave H2 := (cut1 c M fullShare X) $$ H
  icases H2 with ⟨H1, H2⟩
  isplitl [H1]
  · iexists _; iexact H1
  · iexists _; iexact H2

theorem join0 (M : Memref sig .tc .vmem S1024x1024 .f32) :
    iprop(any (F := F) c (hf M (k0_off2 c) (k0_off2_inb c)) ∗ any c (hf M (k0_off8 c) (k0_off8_inb c))) ⊢ any c M := by
  iintro ⟨⟨%X₁, H1⟩, %X₂, H2⟩
  ihave H := (glue0 c M fullShare X₁ X₂) $$ [H1 H2]
  · isplitl [H1]; iexact H1; iexact H2
  icases H with ⟨%X, -, H⟩
  iexists X; iexact H
theorem join1 (M : Memref sig .tc .vmem S1024x1024 .f32) :
    iprop(any (F := F) c (hf M (k0_off11 c) (k0_off11_inb c)) ∗ any c (hf M (k0_off5 c) (k0_off5_inb c))) ⊢ any c M := by
  iintro ⟨⟨%X₁, H1⟩, %X₂, H2⟩
  ihave H := (glue1 c M fullShare X₁ X₂) $$ [H1 H2]
  · isplitl [H1]; iexact H1; iexact H2
  icases H with ⟨%X, -, H⟩
  iexists X; iexact H

/-- The two shares of a memref at equal contents are the whole of it. -/
theorem join_shares {sp : Space} {s : Shape} (M : Memref sig .tc sp s .f32) {X Y : s.Idx → Elt F .f32} (h : X = Y) :
    iprop(own c M lft X ∗ own c M rgt Y) ⊢ any c M := by
  subst h
  iintro H
  iexists X
  iapply (owns_halves (c : Thread nD τ) M fullShare X).2
  iexact H

/-- The share of a working buffer its copy gives back, with the shares of its halves the transfers give back. -/
theorem rejoin0 {X : S1024x1024.Idx → Elt F .f32}
    (hX : part X (k0_off8 c) (k0_off8_inb c) = k0F m ρ c ∧ part X (k0_off2 c) (k0_off2_inb c) = k0F m ρ (p2 c)) :
    iprop(own c k0M lft X ∗ own c (kf0 c) rgt (k0F m ρ (p2 c)) ∗ own c (ko0 c) rgt (k0F m ρ c)) ⊢ any c k0M := by
  iintro ⟨HX, H1, H2⟩
  ihave H := (cut0 c k0M lft X) $$ HX
  icases H with ⟨H3, H4⟩
  iapply (join0 c k0M)
  isplitl [H1 H3]
  · iapply (join_shares c (kf0 c) hX.2); isplitl [H3]; iexact H3; iexact H1
  · iapply (join_shares c (ko0 c) hX.1); isplitl [H4]; iexact H4; iexact H2
theorem rejoin1 {X : S1024x1024.Idx → Elt F .f32}
    (hX : part X (k0_off5 c) (k0_off5_inb c) = k1F m ρ c ∧ part X (k0_off11 c) (k0_off11_inb c) = k1F m ρ (p1 c)) :
    iprop(own c k1M lft X ∗ own c (kf1 c) rgt (k1F m ρ (p1 c)) ∗ own c (ko1 c) rgt (k1F m ρ c)) ⊢ any c k1M := by
  iintro ⟨HX, H1, H2⟩
  ihave H := (cut1 c k1M lft X) $$ HX
  icases H with ⟨H3, H4⟩
  iapply (join1 c k1M)
  isplitl [H1 H3]
  · iapply (join_shares c (kf1 c) hX.2); isplitl [H3]; iexact H3; iexact H1
  · iapply (join_shares c (ko1 c) hX.1); isplitl [H4]; iexact H4; iexact H2

end Buffers

/-! ## The pieces of the result -/

/-- On device `c`: the four groups of 512 rows that its partners send, the two blocks of 1024 rows it copies itself. -/
def oOff (c : Dev nD) : Fin 6 → Fin 2 → ℕ :=
  ![k0_off15 (p1 c), k0_off16 (p2 c), k0_off17 (p1 c), k0_off19 (p2 c), k0_off18 c, k0_off20 c]
def oSz : Fin 6 → Fin 2 → ℕ := ![S512x1024.size, S512x1024.size, S512x1024.size, S512x1024.size, S1024x1024.size, S1024x1024.size]
theorem oInb (c : Dev nD) : ∀ t a, oOff c t a + oSz t a ≤ S2048x2048.size a := by revert c; decide +kernel
theorem oApart (c : Dev nD) : ∀ t t', t ≠ t' → ∃ a, oOff c t a + oSz t a ≤ oOff c t' a ∨ oOff c t' a + oSz t' a ≤ oOff c t a := by
  revert c; decide +kernel
def oRect (c : Dev nD) (t : Fin 6) : Rect S2048x2048 := Rect.unit (s := S2048x2048) (oOff c t) (oSz t) (oInb c t)

theorem fin6 (Φ : Fin 6 → sProp (MT nD τ sig Unit (Elt F) ℕ UU ℕ)) : bigSep Finset.univ Φ = iprop(Φ 0 ∗ Φ 1 ∗ Φ 2 ∗ Φ 3 ∗ Φ 4 ∗ Φ 5) := by
  rw [bigSep_univ_eq_bigSepL [(0 : Fin 6), 1, 2, 3, 4, 5] (by decide) (by decide)]
  rfl

/-- The result's buffer is its six pieces. -/
theorem split_out (c : Dev nD) : any (F := F) c oM
    ⊢ iprop(any c (g15 (p1 c)) ∗ any c (g16 (p2 c)) ∗ any c (g17 (p1 c)) ∗ any c (g19 (p2 c)) ∗ any c (g18 c) ∗ any c (g20 c)) := by
  have hs : ∀ X : S2048x2048.Idx → Elt F .f32, own c oM fullShare X ⊢ _ := fun X =>
    Steps.owns_slices (Ix := Unit) (Name := ℕ) (U := UU) (Lvl := ℕ) (c : Thread nD τ) (oRect c) (fun _ _ => rfl) (fun t t' h => Steps.unit_disjoint (oApart c t t' h)) X
  simp only [fin6] at hs
  iintro ⟨%X, H⟩
  ihave H := (hs X) $$ H
  icases H with ⟨H0, H1, H2, H3, H4, H5⟩
  isplitl [H0]; · iapply (own_any c (g15 (p1 c)) _); iexact H0
  isplitl [H1]; · iapply (own_any c (g16 (p2 c)) _); iexact H1
  isplitl [H2]; · iapply (own_any c (g17 (p1 c)) _); iexact H2
  isplitl [H3]; · iapply (own_any c (g19 (p2 c)) _); iexact H3
  isplitl [H4]; · iapply (own_any c (g18 c) _); iexact H4
  iapply (own_any c (g20 c) _); iexact H5

/-! ## What the body starts from and ends with -/

/-- The memory: what the partners are handed at the barrier, the result's two blocks, the working buffers. -/
def memIn (c : Dev nD) : sProp 𝕄 :=
  iprop((barPay1 (p1 c) ∗ barPay2 (p2 c)) ∗ (any c (g18 c) ∗ any c (g20 c)) ∗ (any c (qf0 c) ∗ any c (qo0 c) ∗ any c (qf1 c) ∗ any c (qo1 c)) ∗ any c k0M ∗ any c k1M)

/-- The scratch buffers, whole. -/
def scratch (c : Dev nD) : sProp 𝕄 :=
  iprop(any c q0M ∗ any c q1M ∗ any c k0M ∗ any c k1M ∗ any c u0M ∗ any c u1M ∗ any c w0M ∗ any c w1M)

theorem mem_intro (c : Dev nD) : iprop(scratch (F := F) c ∗ any c oM) ⊢ memIn c := by
  unfold scratch memIn barPay1 barPay2
  iintro ⟨⟨Hq0, Hq1, Hk0, Hk1, Hu0, Hu1, Hw0, Hw1⟩, Ho⟩
  ihave Hq0 := (split0 c q0M) $$ Hq0
  icases Hq0 with ⟨Hqf0, Hqo0⟩
  ihave Hq1 := (split1 c q1M) $$ Hq1
  icases Hq1 with ⟨Hqf1, Hqo1⟩
  ihave Hu0 := (split_slots c u0M) $$ Hu0
  icases Hu0 with ⟨Hu00, Hu01⟩
  ihave Hu1 := (split_slots c u1M) $$ Hu1
  icases Hu1 with ⟨Hu10, Hu11⟩
  ihave Ho := (split_out c) $$ Ho
  icases Ho with ⟨H15, H16, H17, H19, H18, H20⟩
  simp only [p1_p1, p2_p2]
  isplitl [Hu00 Hu01 Hw1 H15 H17 Hu10 Hu11 Hw0 H16 H19]
  · isplitl [Hu00 Hu01 Hw1 H15 H17]
    · isplitl [Hu00]; iexact Hu00; isplitl [Hu01]; iexact Hu01; isplitl [Hw1]; iexact Hw1; isplitl [H15]; iexact H15; iexact H17
    · isplitl [Hu10]; iexact Hu10; isplitl [Hu11]; iexact Hu11; isplitl [Hw0]; iexact Hw0; isplitl [H16]; iexact H16; iexact H19
  isplitl [H18 H20]
  · isplitl [H18]; iexact H18; iexact H20
  isplitl [Hqf0 Hqo0 Hqf1 Hqo1]
  · isplitl [Hqf0]; iexact Hqf0; isplitl [Hqo0]; iexact Hqo0; isplitl [Hqf1]; iexact Hqf1; iexact Hqo1
  isplitl [Hk0]; iexact Hk0; iexact Hk1

/-- What the semaphores give: the barrier's, each transfer's start and landing, the local copies'. -/
def semIn (c : Dev nD) : sProp 𝕄 :=
  iprop(barIn c ∗ (bigSep Finset.univ fun i : Fin 12 => tk (F := F) i.val c) ∗ (bigSep Finset.univ fun i : Fin 12 => live (F := F) (14 + i.val) c) ∗ cp 0 c ∗ cp 1 c)

/-- The result, in its six pieces, at its contents. -/
def outs (c : Dev nD) : sProp 𝕄 :=
  iprop(own c (g15 (p1 c)) fullShare (k0F m ρ (p1 c)) ∗ own c (g16 (p2 c)) fullShare (k1F m ρ (p2 c))
    ∗ own c (g17 (p1 c)) fullShare (k0F m ρ (p2 (p1 c))) ∗ own c (g19 (p2 c)) fullShare (k1F m ρ (p1 (p2 c)))
    ∗ (∃ X : S1024x1024.Idx → Elt F .f32, ⌜part X (k0_off8 c) (k0_off8_inb c) = k0F m ρ c ∧ part X (k0_off2 c) (k0_off2_inb c) = k0F m ρ (p2 c)⌝ ∗ own c (g18 c) fullShare X)
    ∗ (∃ X : S1024x1024.Idx → Elt F .f32, ⌜part X (k0_off5 c) (k0_off5_inb c) = k1F m ρ c ∧ part X (k0_off11 c) (k0_off11_inb c) = k1F m ρ (p1 c)⌝ ∗ own c (g20 c) fullShare X))

/-- Every semaphore at zero. -/
def semOut (c : Dev nD) : sProp 𝕄 :=
  iprop(semVal (barCell c) 0 ∗ dn c 12 ∗ semVal (dcell c 26) 0 ∗ semVal (dcell c 27) 0)

theorem fin12 (Φ : ℕ → sProp (MT nD τ sig Unit (Elt F) ℕ UU ℕ)) : (bigSep Finset.univ fun i : Fin 12 => Φ i.val)
    = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [bigSep_univ_eq_bigSepL [(0 : Fin 12), 1, 2, 3, 4, 5, 6, 7, 8, 9, 10, 11] (by decide) (by decide)]
  rfl

set_option maxHeartbeats 4000000 in
set_option maxRecDepth 4000 in
/-- The body. -/
theorem sound_body (c : Dev nD) (Kt : PUnit → sProp (MT nD τ sig Unit (Elt F) ℕ UU ℕ)) :
    iprop((ctx m ρ K ∗ owesE c (O₀ c) ∗ semIn c ∗ memIn c ∗ own c aM fullShare (sA m ρ c) ∗ own c bM fullShare (sB m ρ c))
        ∗ ((semOut c ∗ outs m ρ c ∗ scratch c ∗ owesE c 0 ∗ own c aM fullShare (sA m ρ c) ∗ own c bM fullShare (sB m ρ c)) -∗ Kt ⟨⟩))
      ⊢ wp frame (wpE (defs₀ (F := F)) 𝒱₀ (c : Thread nD τ) none) Set.univ (cc0_body aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10) Kt := by
  unfold semIn memIn
  rw [fin12 (fun k => tk k c), fin12 (fun k => live (14 + k) c)]
  iintro ⟨⟨#HI, HO, ⟨Hbar, ⟨T0, T1, T2, T3, T4, T5, T6, T7, T8, T9, T10, T11⟩, ⟨R0, R1, R2, R3, R4, R5, R6, R7, R8, R9, R10, R11⟩, C0, C1⟩,
    ⟨⟨HP1, HP2⟩, ⟨H18, H20⟩, ⟨Hqf0, Hqo0, Hqf1, Hqo1⟩, Hk0, Hk1⟩, HA, HB⟩, Hk⟩
  simp only [cc0_body_eq_skeleton]; unfold cc0_body_skel
  simp only [wp_bind]
  iapply (part1 m ρ K c)
  isplitl [HO Hbar HP1 HP2]
  · isplitr; iexact HI; isplitl [HO]; iexact HO; isplitl [Hbar]; iexact Hbar; isplitl [HP1]; iexact HP1; iexact HP2
  iintro %w ⟨HO, Sb, HP1, HP2⟩
  obtain ⟨v2, v5, v7, v8, v10, v11, v12, v19, v21, v23, v24, v25, v27⟩ := w
  dsimp only
  unfold barPay1 barPay2
  icases HP1 with ⟨A00, A01, Aw1, A15, A17⟩
  icases HP2 with ⟨B10, B11, Bw0, B16, B19⟩
  iapply (part2 m ρ K c)
  isplitl [HA HB Hqf0 Hqo1 A00 HO T0]
  · isplitr; iexact HI; isplitl [HA]; iexact HA; isplitl [HB]; iexact HB; isplitl [Hqf0]; iexact Hqf0; isplitl [Hqo1]; iexact Hqo1; isplitl [A00]; iexact A00; isplitl [HO]; iexact HO; iexact T0
  iintro ⟨HA, HB, Hqo1, L2, HO⟩
  iapply (part3 m ρ K c)
  isplitl [HA HB Hqo1 Hqo0 Hqf1 B10 A01 HO T1 T2]
  · isplitr; iexact HI; isplitl [HA]; iexact HA; isplitl [HB]; iexact HB; isplitl [Hqo1]; iexact Hqo1; isplitl [Hqo0]; iexact Hqo0; isplitl [Hqf1]; iexact Hqf1; isplitl [B10]; iexact B10; isplitl [A01]; iexact A01; isplitl [HO]; iexact HO; isplitl [T1]; iexact T1; iexact T2
  iintro ⟨HA, HB, Hqf1, L3, L4, HO⟩
  iapply (part4 m ρ K c)
  isplitl [HA HB Hqf1 B11 Hk0 Hk1 HO T3]
  · isplitr; iexact HI; isplitl [HA]; iexact HA; isplitl [HB]; iexact HB; isplitl [Hqf1]; iexact Hqf1; isplitl [B11]; iexact B11; isplitl [Hk0]; iexact Hk0; isplitl [Hk1]; iexact Hk1; isplitl [HO]; iexact HO; iexact T3
  iintro %v ⟨HA, HB, Kf0, Ko0, Kf1, Ko1, L5, HO⟩
  iapply (part5 m ρ K c)
  isplitl [L2 R0 HO Kf0]
  · isplitr; iexact HI; isplitl [L2]; iexact L2; isplitl [R0]; iexact R0; isplitl [HO]; iexact HO; isplitr; rw [show dn (F := F) c 0 = iprop(emp) from rfl]; iempintro; iexact Kf0
  iintro %v ⟨D, Hqf0, U00, Kf0, HO⟩
  obtain ⟨v130, v132, v133⟩ := v
  dsimp only
  iapply (part6 m ρ K c)
  isplitl [Kf0 Bw0 HO T4 L3 R1 D Kf1]
  · isplitr; iexact HI; isplitl [Kf0]; iexact Kf0; isplitl [Bw0]; iexact Bw0; isplitl [HO]; iexact HO; isplitl [T4]; iexact T4; isplitl [L3]; iexact L3; isplitl [R1]; iexact R1; isplitl [D]; iexact D; iexact Kf1
  iintro ⟨L6, D, Hqo1, U10, Kf1, HO⟩
  iapply (part7 m ρ K c)
  isplitl [Kf1 Aw1 HO T5 L4 R2 D Ko0 L5]
  · isplitr; iexact HI; isplitl [Kf1]; iexact Kf1; isplitl [Aw1]; iexact Aw1; isplitl [HO]; iexact HO; isplitl [T5]; iexact T5; isplitl [L4]; iexact L4; isplitl [R2]; iexact R2; isplitl [D]; iexact D; isplitl [Ko0]; iexact Ko0; iexact L5
  iintro ⟨L7, D, Hqo0, U01, Ko0, S5, Hqf1, HO⟩
  iapply (part8 m ρ K c)
  isplitl [R3 D S5 Ko1 L6 R4 Ko0 HO]
  · isplitr; iexact HI; isplitl [R3]; iexact R3; isplitl [D]; iexact D; isplitl [S5]; iexact S5; isplitl [Ko1]; iexact Ko1; isplitl [L6]; iexact L6; isplitl [R4]; iexact R4; isplitl [Ko0]; iexact Ko0; iexact HO
  iintro ⟨D, U11, Ko1, W0, F0, Ko0, HO⟩
  iapply (part9 m ρ K c)
  isplitl [Ko0 F0 HO T6 L7 R5 D Ko1]
  · isplitr; iexact HI; isplitl [Ko0]; iexact Ko0; isplitl [F0]; iexact F0; isplitl [HO]; iexact HO; isplitl [T6]; iexact T6; isplitl [L7]; iexact L7; isplitl [R5]; iexact R5; isplitl [D]; iexact D; iexact Ko1
  iintro ⟨Ko0, L8, D, W1, F1, Ko1, HO⟩
  iapply (part10 m ρ K c)
  isplitl [Ko1 F1 Ko0 A15 B16 HO T7 T8 T9]
  · isplitr; iexact HI; isplitl [Ko1]; iexact Ko1; isplitl [F1]; iexact F1; isplitl [Ko0]; iexact Ko0; isplitl [A15]; iexact A15; isplitl [B16]; iexact B16; isplitl [HO]; iexact HO; isplitl [T7]; iexact T7; isplitl [T8]; iexact T8; iexact T9
  iintro ⟨L9, L10, L11, HO⟩
  iapply (part11 m ρ K c)
  isplitl [L8 R6 D HO A17 T10 H18 C0 L9 R7]
  · isplitr; iexact HI; isplitl [L8]; iexact L8; isplitl [R6]; iexact R6; isplitl [D]; iexact D; isplitl [HO]; iexact HO; isplitl [A17]; iexact A17; isplitl [T10]; iexact T10; isplitl [H18]; iexact H18; isplitl [C0]; iexact C0; isplitl [L9]; iexact L9; iexact R7
  iintro ⟨L12, D, L26, Ko1, Kf1, HO⟩
  iapply (part12 m ρ K c)
  isplitl [Ko1 Kf1 B19 HO T11 H20 C1 L10 R8 D L11]
  · isplitr; iexact HI; isplitl [Ko1]; iexact Ko1; isplitl [Kf1]; iexact Kf1; isplitl [B19]; iexact B19; isplitl [HO]; iexact HO; isplitl [T11]; iexact T11; isplitl [H20]; iexact H20; isplitl [C1]; iexact C1; isplitl [L10]; iexact L10; isplitl [R8]; iexact R8; isplitl [D]; iexact D; iexact L11
  iintro ⟨L13, L27, D, Ko0, O15, S11, Ko1, HO⟩
  iapply (part13 m ρ K c)
  isplitl [R9 D S11 HO L12 R10 L13 R11 L26]
  · isplitr; iexact HI; isplitl [R9]; iexact R9; isplitl [D]; iexact D; isplitl [S11]; iexact S11; isplitl [HO]; iexact HO; isplitl [L12]; iexact L12; isplitl [R10]; iexact R10; isplitl [L13]; iexact L13; isplitl [R11]; iexact R11; iexact L26
  iintro ⟨D, P9, Q10, P10, Q11, P11, S26, C0, HO⟩
  simp only [Prog.lift, Prog.bind_op, Prog.bind_ret, Prog.pure_eq_ret]
  iapply (wait_dma m ρ K c 27 (by decide) (by decide) (copy_sem 1 _) 0 (by decide) (by decide) (credit_N2 _)) $$ [L27 HO]
  · isplitr; iexact HI; isplitl [L27]; iexact L27; iexact HO
  rw [show dpay m ρ c 27 = copyPay m ρ c 1 from dpay_copy m ρ c 1]
  iintro ⟨S27, C1, HO⟩
  ihave C0 := (show copyPay m ρ c 0 ⊢ iprop(∃ X : S1024x1024.Idx → Elt F .f32, ⌜part X (k0_off8 c) (k0_off8_inb c) = k0F m ρ c ∧ part X (k0_off2 c) (k0_off2_inb c) = k0F m ρ (p2 c)⌝
      ∗ own c (g18 c) fullShare X ∗ own c k0M lft X) from .rfl) $$ C0
  ihave C1 := (show copyPay m ρ c 1 ⊢ iprop(∃ X : S1024x1024.Idx → Elt F .f32, ⌜part X (k0_off5 c) (k0_off5_inb c) = k1F m ρ c ∧ part X (k0_off11 c) (k0_off11_inb c) = k1F m ρ (p1 c)⌝
      ∗ own c (g20 c) fullShare X ∗ own c k1M lft X) from .rfl) $$ C1
  ihave P9 := (show recvPay m ρ c 9 ⊢ own c (g16 (p2 c)) fullShare (k1F m ρ (p2 c)) from .rfl) $$ P9
  ihave P10 := (show recvPay m ρ c 10 ⊢ own c (g17 (p1 c)) fullShare (k0F m ρ (p2 (p1 c))) from .rfl) $$ P10
  ihave P11 := (show recvPay m ρ c 11 ⊢ own c (g19 (p2 c)) fullShare (k1F m ρ (p1 (p2 c))) from .rfl) $$ P11
  ihave Q10 := (show sendPay m ρ c 10 ⊢ own c (kf0 c) rgt (k0F m ρ (p2 c)) from .rfl) $$ Q10
  ihave Q11 := (show sendPay m ρ c 11 ⊢ own c (kf1 c) rgt (k1F m ρ (p1 c)) from .rfl) $$ Q11
  icases C0 with ⟨%X₀, %hX₀, H18, C0⟩
  icases C1 with ⟨%X₁, %hX₁, H20, C1⟩
  iapply (le_wp_ret Idealize.ShloMosaic.frame (wpE (defs₀ (F := F)) 𝒱₀ (c : Thread nD τ) none) Set.univ (⟨⟩ : PUnit))
  iapply (le_wp_ret Idealize.ShloMosaic.frame (wpE (defs₀ (F := F)) 𝒱₀ (c : Thread nD τ) none) Set.univ (⟨⟩ : PUnit))
  iapply Hk
  unfold semOut outs scratch
  isplitl [Sb D S26 S27]
  · isplitl [Sb]; iexact Sb; isplitl [D]; iexact D; isplitl [S26]; iexact S26; iexact S27
  isplitl [O15 P9 P10 P11 H18 H20]
  · isplitl [O15]; iexact O15
    isplitl [P9]; iexact P9
    isplitl [P10]; iexact P10
    isplitl [P11]; iexact P11
    isplitl [H18]
    · iexists X₀; isplitr; ipureintro; exact hX₀; iexact H18
    · iexists X₁; isplitr; ipureintro; exact hX₁; iexact H20
  isplitl [Hqf0 Hqo0 Hqf1 Hqo1 C0 Q10 Ko0 C1 Q11 Ko1 U00 U01 U10 U11 W0 W1]
  · isplitl [Hqf0 Hqo0]
    · iapply (join0 c q0M); isplitl [Hqf0]; iexact Hqf0; iexact Hqo0
    isplitl [Hqf1 Hqo1]
    · iapply (join1 c q1M); isplitl [Hqf1]; iexact Hqf1; iexact Hqo1
    isplitl [C0 Q10 Ko0]
    · iapply (rejoin0 m ρ c hX₀); isplitl [C0]; iexact C0; isplitl [Q10]; iexact Q10; iexact Ko0
    isplitl [C1 Q11 Ko1]
    · iapply (rejoin1 m ρ c hX₁); isplitl [C1]; iexact C1; isplitl [Q11]; iexact Q11; iexact Ko1
    isplitl [U00 U01]
    · iapply (join_slots c u0M); isplitl [U00]; iexact U00; iexact U01
    isplitl [U10 U11]
    · iapply (join_slots c u1M); isplitl [U10]; iexact U10; iexact U11
    isplitl [W0]; iexact W0; iexact W1
  isplitl [HO]
  · rw [show owed c 0 = 0 from rfl]; iexact HO
  isplitl [HA]; iexact HA; iexact HB

end Cert.KernelIdealProof

end
-- ==== Proof.KernelIdealStart.lean ====
/-
  The pipeline's proof data and its obligation, and what each device's body starts from: its positions, the tokens of what
  it pays, and the credit the launch gives it.
-/
module

public import proofs.«01_k».proof.Proof.KernelIdealBody
public import proofs.«01_k».proof.Proof.Sums

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- The positions of its cells; -/
def posn (c : Dev nD) : sProp (MT nD τ sig Unit (Elt F) ℕ UU ℕ) :=
  iprop(atPos ER (barCell c) 0 ∅ 0 ∗ bigSep Finset.univ fun i : Fin 26 => atPos ER (dcell c (2 + i.val)) 0 ∅ 0)
/-- the tokens of the duties it pays; -/
def payToks (c : Dev nD) : sProp (MT nD τ sig Unit (Elt F) ℕ UU ℕ) :=
  iprop(dutyTok ER (barCell (p1 c)) 0 false ∗ dutyTok ER (barCell (p2 c)) 0 true
    ∗ (bigSep Finset.univ fun i : Fin 12 => dutyTok ER (dcell c (2 + i.val)) 0 false)
    ∗ (bigSep Finset.univ fun i : Fin 12 => dutyTok ER (dcell (prt i.val c) (14 + i.val)) 0 false)
    ∗ dutyTok ER (dcell c 26) 0 false ∗ dutyTok ER (dcell c 27) 0 false)
def linear (c : Dev nD) : sProp (MT nD τ sig Unit (Elt F) ℕ UU ℕ) := iprop(posn (F := F) c ∗ payToks (F := F) c)
/-- the credit on its cells that others pay. -/
def creds (c : Dev nD) : sProp (MT nD τ sig Unit (Elt F) ℕ UU ℕ) :=
  iprop(cred (tallyAt (barCell c) () 2) ∗ bigSep Finset.univ fun i : Fin 12 => cred (tallyAt (dcell c (14 + i.val)) () N))

theorem NN_recv (i : Fin 12) : NN (14 + i.val) = N := if_pos (by omega)

theorem sem_intro (c : Dev nD) : iprop(linear (F := F) c ∗ creds c) ⊢ semIn c := by
  unfold linear posn payToks creds semIn barIn tk live cp
  rw [bigSep_sep', bigSep_sep', bigSep_sep', Steps.bigSep_range26 (fun k => (atPos ER (dcell c (2 + k)) 0 ∅ 0 : sProp (MT nD τ sig Unit (Elt F) ℕ UU ℕ)))]
  simp only [NN_recv]
  rw [show (fun i : Fin 12 => (atPos ER (dcell c (2 + (12 + i.val))) 0 ∅ 0 : sProp (MT nD τ sig Unit (Elt F) ℕ UU ℕ))) = fun i : Fin 12 => atPos ER (dcell c (14 + i.val)) 0 ∅ 0 from
    funext fun i => by rw [← Nat.add_assoc]]
  iintro ⟨⟨⟨HaB, ⟨HaS, HaR⟩, Ha0, Ha1⟩, HtB1, HtB2, HtS, HtR, Ht0, Ht1⟩, HcB, HcR⟩
  isplitl [HaB HtB1 HtB2 HcB]
  · isplitl [HtB1]; iexact HtB1; isplitl [HtB2]; iexact HtB2; isplitl [HaB]; iexact HaB; iexact HcB
  isplitl [HaS HtS HtR]
  · isplitl [HaS]; iexact HaS; isplitl [HtS]; iexact HtS; iexact HtR
  isplitl [HaR HcR]
  · isplitl [HaR]; iexact HaR; iexact HcR
  isplitl [Ha0 Ht0]
  · isplitl [Ha0]; iexact Ha0; iexact Ht0
  isplitl [Ha1]; iexact Ha1; iexact Ht1

/-! ## The proof data -/

def start (c : Dev nD) : sProp (MT nD τ sig Unit (Elt F) ℕ UU ℕ) :=
  iprop((∃ K, records m ρ K ∗ linear (F := F) c) ∗ creds c ∗ levAts L lv ∗ any c oM)

def Φ₀ (c : Dev nD) : sProp (MT nD τ sig Unit (Elt F) ℕ UU ℕ) := iprop(start m ρ c ∗ scratch c)
def Φ₁ (c : Dev nD) : sProp (MT nD τ sig Unit (Elt F) ℕ UU ℕ) := iprop(semOut c ∗ outs m ρ c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sA m ρ c
    | ⟨1, _⟩ => sB m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## The obligation -/

def bodyPre (c : Dev nD) : sProp (MT nD τ sig Unit (Elt F) ℕ UU ℕ) :=
  iprop(Φ₀ m ρ c ∗ (dats m ρ 0 c).owesAt () t0_0.castSucc
    ∗ (∃ d, own c aM fullShare ((dats m ρ 0 c).before (0 : Fin 2) t0_0 d))
    ∗ (∃ d, own c bM fullShare ((dats m ρ 0 c).before (1 : Fin 2) t0_0 d)))
def bodyPost (c : Dev nD) : sProp (MT nD τ sig Unit (Elt F) ℕ UU ℕ) :=
  iprop(Φ₁ m ρ c ∗ (dats m ρ 0 c).owesAt () t0_0.succ ∗ own c aM fullShare (sA m ρ c) ∗ own c bM fullShare (sB m ρ c))

theorem before_a (c : Dev nD) (d) : (dats m ρ 0 c).before (0 : Fin 2) t0_0 d = sA m ρ c := by
  unfold Dat.before; rw [if_pos (fetch0_0 t0_0)]; rfl
theorem before_b (c : Dev nD) (d) : (dats m ρ 0 c).before (1 : Fin 2) t0_0 d = sB m ρ c := by
  unfold Dat.before; rw [if_pos (fetch0_1 t0_0)]; rfl

theorem owes_in (c : Dev nD) : (dats m ρ 0 c).owesAt () t0_0.castSucc ⊢ owesE c (O₀ c) := by
  unfold Dat.owesAt Pipeline.owesWithin owesE
  iintro ⟨%W, -, H⟩
  iexists W; iexact H
theorem owes_out (c : Dev nD) : owesE (F := F) c 0 ⊢ (dats m ρ 0 c).owesAt () t0_0.succ := by
  unfold Dat.owesAt Pipeline.owesWithin owesE
  iintro ⟨%W, H⟩
  iexists W
  isplitr; · ipureintro; exact fun _ _ => Or.inl trivial
  iexact H

theorem run_body (c : Dev nD) : bodyPre m ρ c
    ⊢ wp frame (wpE (defs₀ (F := F)) 𝒱₀ (c : Thread nD τ) none) Set.univ (cc0_body aM (Memref.isWhole_whole _) bM (Memref.isWhole_whole _) oM (Memref.isWhole_whole _) q0M (Memref.isWhole_whole _) q1M (Memref.isWhole_whole _) k0M (Memref.isWhole_whole _) k1M (Memref.isWhole_whole _) u0M (Memref.isWhole_whole _) u1M (Memref.isWhole_whole _) w0M (Memref.isWhole_whole _) w1M (Memref.isWhole_whole _) cc0_scratch8 cc0_scratch9 cc0_scratch10) (fun _ => bodyPost m ρ c) := by
  unfold bodyPre bodyPost Φ₀ start
  iintro ⟨⟨⟨⟨%K, #HR, Hlin⟩, Hcr, #Hlev, Ho⟩, Hscr⟩, HO, ⟨%d0, HA⟩, %d1, HB⟩
  rw [before_a, before_b]
  ihave HO := (owes_in m ρ c) $$ HO
  ihave HS := (sem_intro c) $$ [Hlin Hcr]
  · isplitl [Hlin]; iexact Hlin; iexact Hcr
  ihave HM := (mem_intro c) $$ [Hscr Ho]
  · isplitl [Hscr]; iexact Hscr; iexact Ho
  iapply (sound_body m ρ K c fun _ => bodyPost m ρ c)
  unfold bodyPost Φ₁ ctx
  isplitl
  · isplitr
    · isplitr; iexact HR; iexact Hlev
    isplitl [HO]; iexact HO; isplitl [HS]; iexact HS; isplitl [HM]; iexact HM; isplitl [HA]; iexact HA; iexact HB
  · iintro ⟨HS, Hout, Hscr, HO, HA, HB⟩
    ihave HO := (owes_out m ρ c) $$ HO
    isplitl [HS Hout Hscr]
    · isplitl [HS]; iexact HS; isplitl [Hout]; iexact Hout; iexact Hscr
    isplitl [HO]; iexact HO; isplitl [HA]; iexact HA; iexact HB

/-- The library's body obligation. -/
theorem body_obligation (c : Dev nD) : BodyObligation (dats (F := F) m ρ 0 c) (defs₀ (F := F)) 𝒱₀ () Set.univ := fun t => by
  rw [fin_N0 t]
  rw [bigSep_W0, bigSep_W0]
  exact run_body m ρ c

/-! ## The launch credit -/

theorem dcell_eq {a b : Dev nD} {j k : ℕ} (hj : j < 28) (hk : k < 28) (h : dcell a j = dcell b k) : a = b ∧ j = k := by
  refine ⟨congrArg (fun g : GSem nD τ sig => g.1.1) h, ?_⟩
  have h2 : (dsem j).val = (dsem k).val := congrArg (fun g : GSem nD τ sig => match g.2 with | .dma d => d.val | .reg _ => 0) h
  rwa [dsem_val j hj, dsem_val k hk] at h2

theorem prt_eq_iff (i : ℕ) (a b : Dev nD) : a = prt i b ↔ b = prt i a :=
  ⟨fun h => by rw [h, prt_prt], fun h => by rw [h, prt_prt]⟩

/-- What device `d` owes device `c`'s receive cell `i` before its last `n` transfers. -/
theorem owed_recv (c d : Dev nD) (i : ℕ) (hi : i < 12) (n : ℕ) (hn : n ≤ 12) :
    owed d n (dcell c (14 + i)) () = if 12 - n ≤ i ∧ d = prt i c then N else 0 := by
  induction n with
  | zero => rw [if_neg (fun h => by omega)]; rfl
  | succ n ih =>
    unfold owed
    rw [Pi.add_apply, Finsupp.add_apply, ih (by omega), tallyAt_apply]
    by_cases he : i = 11 - n
    · subst he
      rw [if_neg (fun h => by omega), Nat.zero_add]
      by_cases hd : d = prt (11 - n) c
      · rw [if_pos ⟨by rw [(prt_eq_iff _ _ _).1 hd], rfl⟩, if_pos ⟨by omega, hd⟩]
      · rw [if_neg (fun h => hd ((prt_eq_iff _ _ _).1 (dcell_eq (by omega) (by omega) h.1).1)), if_neg (fun h => hd h.2)]
    · have hne : ¬(dcell c (14 + i) = dcell (prt (11 - n) d) (14 + (11 - n)) ∧ () = ()) :=
        fun h => he (by have := (dcell_eq (by omega) (by omega) h.1).2; omega)
      rw [if_neg hne, Nat.add_zero]
      refine if_congr ?_ rfl rfl
      constructor
      · exact fun h => ⟨by omega, h.2⟩
      · exact fun h => ⟨by omega, h.2⟩

theorem owed_bar_zero (c d : Dev nD) : owed d 12 (barCell c) () = 0 := by
  by_contra h
  have := (owed_pos le_rfl (Nat.pos_of_ne_zero h)).2
  have h1 : lv (barCell c) () = 1 := rfl
  omega

theorem bar_eq {a b : Dev nD} (h : barCell a = barCell b) : a = b := congrArg (fun g : GSem nD τ sig => g.1.1) h
theorem bar_ne (a b : Dev nD) (k : ℕ) : dcell a k ≠ barCell b := fun h => by cases congrArg Prod.snd h

theorem O₀_recv (c d : Dev nD) (i : Fin 12) : O₀ d (dcell c (14 + i.val)) () = if d = prt i.val c then N else 0 := by
  unfold O₀ O₁
  rw [Pi.add_apply, Finsupp.add_apply, Pi.add_apply, Finsupp.add_apply, tallyAt_ne_cell (bar_ne _ _ _), tallyAt_ne_cell (bar_ne _ _ _),
    Finsupp.zero_apply, Nat.add_zero, Nat.add_zero, owed_recv c d i.val i.isLt 12 le_rfl]
  exact if_congr ⟨fun h => h.2, fun h => ⟨by omega, h⟩⟩ rfl rfl

theorem O₀_bar (c d : Dev nD) : O₀ d (barCell c) () = (if d = p2 c then 1 else 0) + if d = p1 c then 1 else 0 := by
  unfold O₀ O₁
  rw [Pi.add_apply, Finsupp.add_apply, Pi.add_apply, Finsupp.add_apply, tallyAt_apply, tallyAt_apply, owed_bar_zero, Nat.zero_add]
  refine congrArg₂ _ (if_congr ⟨fun h => ?_, fun h => ?_⟩ rfl rfl) (if_congr ⟨fun h => ?_, fun h => ?_⟩ rfl rfl)
  · rw [bar_eq h.1, p2_p2]
  · subst h; exact ⟨by rw [p2_p2], rfl⟩
  · rw [bar_eq h.1, p1_p1]
  · subst h; exact ⟨by rw [p1_p1], rfl⟩

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar c d, Finset.sum_add_distrib,
    Finset.sum_ite_eq' Finset.univ (p2 c) fun _ => 1, Finset.sum_ite_eq' Finset.univ (p1 c) fun _ => 1, if_pos (Finset.mem_univ _), if_pos (Finset.mem_univ _)]

theorem launch_recv (c : Dev nD) (i : Fin 12) :
    tallyOn (dcell c (14 + i.val)) (launchCredit (Pipeline.owing O₀) 0 (dcell c (14 + i.val))) = (tallyAt (dcell c (14 + i.val)) () N : CellTallies nD τ sig Unit) := by
  unfold tallyAt; refine congrArg _ (Finsupp.ext fun u => ?_); cases u
  rw [Pipeline.launchCredit_owing, Finsupp.single_eq_same, Finset.sum_congr rfl fun d _ => O₀_recv c d i, Finset.sum_ite_eq' Finset.univ (prt i.val c) fun _ => N,
    if_pos (Finset.mem_univ _)]

/-- The semaphores of the receive cells. -/
def recvSems : Finset (SemLoc sig) := Finset.univ.image fun i : Fin 12 => .dma (dsem (14 + i.val))

theorem recv_injective (c : Dev nD) : Set.InjOn (fun i : Fin 12 => (.dma (dsem (14 + i.val)) : SemLoc sig)) (Finset.univ : Finset (Fin 12)) :=
  fun i _ j _ h => Fin.ext (by
    have := (dcell_eq (a := c) (b := c) (by omega) (by omega) (show dcell c (14 + i.val) = dcell c (14 + j.val) from congrArg (Prod.mk (c : Thread nD τ)) h)).2
    omega)

theorem creds_intro (c : Dev nD) : (Pipeline.launchCred O₀ c : sProp (MT nD τ sig Unit (Elt F) ℕ UU ℕ)) ⊢ creds c := by
  unfold Pipeline.launchCred creds
  rw [bigSep_univ_at _ (SemLoc.reg barS), launch_bar]
  refine sep_mono_right ?_
  refine (bigSep_subset (t := recvSems) (fun x hx => ?_)).trans ?_
  · obtain ⟨i, -, rfl⟩ := Finset.mem_image.mp hx
    exact Finset.mem_erase.mpr ⟨fun h => (by cases h), Finset.mem_univ _⟩
  · unfold recvSems
    rw [bigSep_image_of_injOn (recv_injective c)]
    exact bigSep_mono fun i _ => Entails.of_eq (congrArg cred (launch_recv c i))

end Cert.KernelIdealProof

end
-- ==== Proof.KernelIdealLaunch.lean ====
/-
  The launch: the cells' invariants and tokens allotted to the devices, and the run of the whole program with its result.
-/
module

public import proofs.«01_k».proof.Proof.KernelIdealStart
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev osem : Fin 26 → SemLoc sig := fun k => .dma (dsem (2 + k.val))

theorem ownSemFacts : Pipeline.OwnSemFacts cfg0.spec osem := by decide

theorem share_eq (c : Dev nD) (w : Fin cfg0.W) : (dats m ρ 0 c).share w = fullShare := by unfold Dat.share; split <;> rfl

/-! ## Cells and tokens -/

theorem csem_injective : Function.Injective csem := by decide
theorem kcell_injective : Function.Injective (kcell : Dev nD × Fin 27 → GSem nD τ sig) := by
  rintro ⟨c, j⟩ ⟨c', j'⟩ h
  have h1 : c = c' := congrArg (fun g : GSem nD τ sig => g.1.1) h
  have h2 : j = j' := csem_injective (congrArg Prod.snd h)
  rw [h1, h2]
def allCells : Finset (GSem nD τ sig) := Finset.univ.map ⟨kcell, kcell_injective⟩

/-- Duty token `j` of a device's own cells: its barrier's two, then each DMA cell's one. -/
def tokSem (j : ℕ) : SemLoc sig := if j < 2 then .reg barS else .dma (dsem j)
def tokOf (cj : Dev nD × Fin 28) : GSem nD τ sig × ℕ × Bool := (((cj.1 : Thread nD τ), tokSem cj.2.val), 0, decide (cj.2.val = 1))
theorem tokSem_injective : ∀ j j' : Fin 28, tokSem j.val = tokSem j'.val → decide (j.val = 1) = decide (j'.val = 1) → j = j' := by decide
theorem tokOf_injective : Function.Injective tokOf := by
  rintro ⟨c, j⟩ ⟨c', j'⟩ h
  have h1 : c = c' := congrArg (fun x : GSem nD τ sig × ℕ × Bool => x.1.1.1) h
  have h2 : j = j' := tokSem_injective j j' (congrArg (fun x : GSem nD τ sig × ℕ × Bool => x.1.2) h) (congrArg (fun x : GSem nD τ sig × ℕ × Bool => x.2.2) h)
  rw [h1, h2]
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- A family over a device's cells is its barrier cell's member and the DMA cells'. -/
theorem cells_eq (c : Dev nD) (Ψ : GSem nD τ sig → sProp (MT nD τ sig Unit (Elt F) ℕ UU ℕ)) :
    (bigSep Finset.univ fun j : Fin 27 => Ψ (kcell (c, j))) = iprop(Ψ (barCell c) ∗ bigSep Finset.univ fun i : Fin 26 => Ψ (dcell c (2 + i.val))) := by
  refine (Steps.bigSep_range_first 26 (fun j => Ψ ((c : Thread nD τ), if j = 0 then .reg barS else .dma (dsem (j + 1))))).trans ?_
  refine congrArg (fun X : sProp (MT nD τ sig Unit (Elt F) ℕ UU ℕ) => iprop(Ψ (barCell c) ∗ X)) (bigSep_congr fun i _ => ?_)
  show Ψ ((c : Thread nD τ), if 1 + i.val = 0 then .reg barS else .dma (dsem (1 + i.val + 1))) = _
  rw [if_neg (by omega), show 1 + i.val + 1 = 2 + i.val by omega]

/-- The tokens of a device's own cells. -/
def toks (c : Dev nD) : sProp (MT nD τ sig Unit (Elt F) ℕ UU ℕ) :=
  iprop((dutyTok ER (barCell c) 0 false ∗ dutyTok ER (barCell c) 0 true)
    ∗ ((bigSep Finset.univ fun i : Fin 12 => dutyTok ER (dcell c (2 + i.val)) 0 false) ∗ bigSep Finset.univ fun i : Fin 12 => dutyTok ER (dcell c (14 + i.val)) 0 false)
    ∗ dutyTok ER (dcell c 26) 0 false ∗ dutyTok ER (dcell c 27) 0 false)

theorem toks_eq (c : Dev nD) : (bigSep Finset.univ fun j : Fin 28 => (dutyTok ER (tokOf (c, j)).1 (tokOf (c, j)).2.1 (tokOf (c, j)).2.2 : sProp (MT nD τ sig Unit (Elt F) ℕ UU ℕ))) = toks c := by
  have hk : ∀ k : ℕ, (dutyTok ER (((c : Thread nD τ), tokSem (2 + k)) : GSem nD τ sig) 0 (decide (2 + k = 1)) : sProp (MT nD τ sig Unit (Elt F) ℕ UU ℕ)) = dutyTok ER (dcell c (2 + k)) 0 false := fun k => by
    rw [show tokSem (2 + k) = .dma (dsem (2 + k)) from if_neg (by omega), decide_eq_false (by omega)]
  refine (Steps.bigSep_range_add 2 26 (fun j => (dutyTok ER (((c : Thread nD τ), tokSem j) : GSem nD τ sig) 0 (decide (j = 1)) : sProp (MT nD τ sig Unit (Elt F) ℕ UU ℕ)))).trans ?_
  simp only [hk]
  rw [Steps.bigSep_range26 (fun k => (dutyTok ER (dcell c (2 + k)) 0 false : sProp (MT nD τ sig Unit (Elt F) ℕ UU ℕ))), bigSep_univ_two,
    show (fun i : Fin 12 => (dutyTok ER (dcell c (2 + (12 + i.val))) 0 false : sProp (MT nD τ sig Unit (Elt F) ℕ UU ℕ))) = fun i : Fin 12 => dutyTok ER (dcell c (14 + i.val)) 0 false from
      funext fun i => by rw [← Nat.add_assoc]]
  rfl

/-- What the launch deals device `c`, -/
def G (c : Dev nD) : sProp (MT nD τ sig Unit (Elt F) ℕ UU ℕ) :=
  iprop((bigSep Finset.univ fun j : Fin 27 => roundState ER (Rd m ρ) (kcell (c, j)) 0)
    ∗ (bigSep Finset.univ fun j : Fin 27 => iprop(atPos ER (kcell (c, j)) 0 ∅ 0 ∗ reached ER (kcell (c, j)) 0)) ∗ toks c)
/-- and what the devices together make of it. -/
def G' (c : Dev nD) : sProp (MT nD τ sig Unit (Elt F) ℕ UU ℕ) := iprop(∃ K, records m ρ K ∗ linear (F := F) c)

theorem fund : BI.own (ER (initOf allCells allToks)) ⊢ (|==> bigSep Finset.univ (G m ρ) : sProp (MT nD τ sig Unit (Elt F) ℕ UU ℕ)) := by
  have hX (Φ : GSem nD τ sig → sProp (MT nD τ sig Unit (Elt F) ℕ UU ℕ)) : bigSep allCells Φ = bigSep Finset.univ fun c : Dev nD => bigSep Finset.univ fun j : Fin 27 => Φ (kcell (c, j)) := by
    unfold allCells; rw [bigSep_map, bigSep_univ_prod]; rfl
  have hT : bigSep allToks (fun x => (dutyTok ER x.1 x.2.1 x.2.2 : sProp (MT nD τ sig Unit (Elt F) ℕ UU ℕ))) = bigSep Finset.univ fun c : Dev nD => toks c := by
    unfold allToks; rw [bigSep_map, bigSep_univ_prod]
    exact bigSep_congr fun c _ => toks_eq c
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; iexact Hat; iexact Hr
  iexact Htok

/-! ## The semaphores -/

theorem unscopedSems0_eq (c : Dev nD) : (unscopedSems0 c : sProp (MT nD τ sig Unit (Elt F) ℕ UU ℕ)) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp (MT nD τ sig Unit (Elt F) ℕ UU ℕ))
    = bigSep Finset.univ fun i : Fin 26 => semVal (dcell c (2 + i.val)) 0 := rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ (|={Set.univ}=> iprop((bigSep Finset.univ fun j => iprop(∃ κ : ℕ, cellInv ER (Rd m ρ) κ (kcell (c, j))))
          ∗ (bigSep Finset.univ fun j => iprop(atPos ER (kcell (c, j)) 0 ∅ 0 ∗ reached ER (kcell (c, j)) 0)) ∗ toks c) : sProp (MT nD τ sig Unit (Elt F) ℕ UU ℕ)) := by
  unfold G
  rw [unscopedSems0_eq, ownSems0_eq]
  iintro ⟨Hos, Hus, Hst, Hat, Htok⟩
  imod (show iprop((bigSep Finset.univ fun j : Fin 27 => semVal (kcell (c, j)) 0) ∗ bigSep Finset.univ fun j : Fin 27 => roundState ER (Rd m ρ) (kcell (c, j)) 0)
      ⊢ (|={Set.univ}=> bigSep Finset.univ fun j => iprop(∃ κ : ℕ, cellInv ER (Rd m ρ) κ (kcell (c, j))) : sProp (MT nD τ sig Unit (Elt F) ℕ UU ℕ)) from by
        rw [← bigSep_sep']
        exact (bigSep_mono fun j _ => (Rounds.body_intro ER (Rd m ρ) (kcell (c, j))).trans inv_alloc).trans (bigSep_fupd _ _)) $$ [Hos Hus Hst] with Hinv
  · isplitl [Hos Hus]
    · iapply (Entails.of_eq (cells_eq c fun g => (semVal g 0 : sProp (MT nD τ sig Unit (Elt F) ℕ UU ℕ))).symm)
      isplitl [Hus]; iexact Hus; iexact Hos
    iexact Hst
  imodintro
  isplitl [Hinv]; iexact Hinv; isplitl [Hat]; iexact Hat; iexact Htok

/-- Each token goes to the device that pays its duty: a barrier's to the two partners, a receive cell's to the sender. -/
theorem toks_around : (bigSep Finset.univ fun c : Dev nD => (toks c : sProp (MT nD τ sig Unit (Elt F) ℕ UU ℕ))) ⊢ bigSep Finset.univ fun c : Dev nD => payToks c := by
  have hR : (bigSep Finset.univ fun c : Dev nD => bigSep Finset.univ fun i : Fin 12 => (dutyTok ER (dcell c (14 + i.val)) 0 false : sProp (MT nD τ sig Unit (Elt F) ℕ UU ℕ)))
      = bigSep Finset.univ fun c : Dev nD => bigSep Finset.univ fun i : Fin 12 => dutyTok ER (dcell (prt i.val c) (14 + i.val)) 0 false := by
    rw [bigSep_univ_comm, bigSep_univ_comm (fun (c : Dev nD) (i : Fin 12) => (dutyTok ER (dcell (prt i.val c) (14 + i.val)) 0 false : sProp (MT nD τ sig Unit (Elt F) ℕ UU ℕ)))]
    refine bigSep_congr fun i _ => ?_
    exact bigSep_univ_equiv ⟨prt i.val, prt i.val, prt_prt i.val, prt_prt i.val⟩ (fun c : Dev nD => (dutyTok ER (dcell c (14 + i.val)) 0 false : sProp (MT nD τ sig Unit (Elt F) ℕ UU ℕ)))
  unfold toks payToks
  simp only [bigSep_sep']
  rw [hR, bigSep_univ_equiv swap1 (fun c : Dev nD => (dutyTok ER (barCell c) 0 false : sProp (MT nD τ sig Unit (Elt F) ℕ UU ℕ))),
    bigSep_univ_equiv swap2 (fun c : Dev nD => (dutyTok ER (barCell c) 0 true : sProp (MT nD τ sig Unit (Elt F) ℕ UU ℕ)))]
  iintro ⟨⟨H1, H2⟩, ⟨H3, H4⟩, H5, H6⟩
  isplitl [H1]; iexact H1; isplitl [H2]; iexact H2; isplitl [H3]; iexact H3; isplitl [H4]; iexact H4; isplitl [H5]; iexact H5; iexact H6

theorem regroup :
    (bigSep Finset.univ fun c : Dev nD => iprop((bigSep Finset.univ fun j => iprop(∃ κ : ℕ, cellInv ER (Rd m ρ) κ (kcell (c, j))))
          ∗ (bigSep Finset.univ fun j => iprop(atPos ER (kcell (c, j)) 0 ∅ 0 ∗ reached ER (kcell (c, j)) 0)) ∗ toks c) : sProp (MT nD τ sig Unit (Elt F) ℕ UU ℕ))
      ⊢ bigSep Finset.univ (G' m ρ) := by
  rw [bigSep_sep', bigSep_sep', ← bigSep_univ_prod (fun cj : Dev nD × Fin 27 => iprop(∃ κ : ℕ, cellInv ER (Rd m ρ) κ (kcell cj))),
    bigSep_congr (s := Finset.univ) (fun (c : Dev nD) _ => bigSep_sep' Finset.univ (fun j : Fin 27 => (atPos ER (kcell (c, j)) 0 ∅ 0 : sProp (MT nD τ sig Unit (Elt F) ℕ UU ℕ))) (fun j => reached ER (kcell (c, j)) 0)),
    bigSep_sep', ← bigSep_univ_prod (fun cj : Dev nD × Fin 27 => (reached ER (kcell cj) 0 : sProp (MT nD τ sig Unit (Elt F) ℕ UU ℕ))),
    bigSep_congr (s := Finset.univ) (fun (c : Dev nD) _ => cells_eq c fun g => (atPos ER g 0 ∅ 0 : sProp (MT nD τ sig Unit (Elt F) ℕ UU ℕ)))]
  iintro ⟨HI, ⟨Hat, #HR⟩, Htok⟩
  ihave HK := (BI.bigSep_exists_pi Finset.univ (fun (cj : Dev nD × Fin 27) (κ : ℕ) => (cellInv ER (Rd m ρ) κ (kcell cj) : sProp (MT nD τ sig Unit (Elt F) ℕ UU ℕ)))) $$ HI
  icases HK with ⟨%K, #HI⟩
  ihave Htk := (toks_around (F := F)) $$ Htok
  iapply (bigSep_with_persistent (R := records m ρ K) (Φ := linear (F := F)) (Ψ := G' m ρ) fun c _ => show iprop(records m ρ K ∗ linear (F := F) c) ⊢ G' m ρ c from by
    unfold G'; iintro H; iexists K; iexact H)
  isplitr
  · unfold records; isplitl; · iexact HI
    iexact HR
  · iapply (Entails.of_eq (bigSep_sep' Finset.univ (posn (F := F)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp (MT nD τ sig Unit (Elt F) ℕ UU ℕ))
    ⊢ |={Set.univ}=> bigSep Finset.univ (G' m ρ) :=
  ((bigSep_mono fun c _ => core_alloc m ρ c).trans (bigSep_fupd _ _)).trans (BI.fupd_mono (regroup m ρ))

/-! ## Into the body and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ (|={Set.univ}=> iprop(start m ρ c ∗ emp) : sProp (MT nD τ sig Unit (Elt F) ℕ UU ℕ)) := by
  rw [Pipeline.unscopedRestP_none, show (Pipeline.unscopedRest cfg0.spec c (fun b => m ((c : Thread nD τ).loc b)) : sProp (MT nD τ sig Unit (Elt F) ℕ UU ℕ)) = _ from unscopedRest0_eq c _]
  iintro ⟨Ho, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    iexists (m ((c : Thread nD τ).loc main_v1))
    iapply (Entails.of_eq (owns_whole (c : Thread nD τ) main_v1 fullShare (m ((c : Thread nD τ).loc main_v1))).symm)
    iexact Ho
  · iempintro

/-- A whole buffer at some contents. -/
theorem any_whole (c : Dev nD) (b : Ref sig .tc) :
    (iprop(∃ X : b.ty.Contents (Elt F), owns (c : Thread nD τ) (Memref.whole b) fullShare X) : sProp (MT nD τ sig Unit (Elt F) ℕ UU ℕ))
      = iprop(∃ f : Buf (Elt F) ((c : Thread nD τ).loc b), ((c : Thread nD τ).loc b) ↦{fullShare} f) := by
  simp only [owns_whole]

theorem scratch_eq (c : Dev nD) : (scratch c : sProp (MT nD τ sig Unit (Elt F) ℕ UU ℕ)) = Pipeline.scopedRest cfg0.spec c := by
  refine Eq.trans ?_ (scopedRest0_eq c).symm
  unfold scratch
  rw [← any_whole, ← any_whole, ← any_whole, ← any_whole, ← any_whole, ← any_whole, ← any_whole, ← any_whole]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scratch_eq]
  unfold Φ₀
  iintro ⟨Hs, -, Hr⟩
  isplitl [Hs]; iexact Hs; iexact Hr

theorem dn_sems (c : Dev nD) (n : ℕ) : dn (F := F) c n
    ⊢ iprop((bigSep Finset.univ fun i : Fin n => semVal (dcell c (2 + i.val)) 0) ∗ bigSep Finset.univ fun i : Fin n => semVal (dcell c (14 + i.val)) 0) := by
  induction n with
  | zero => rw [Finset.univ_eq_empty, bigSep_empty, bigSep_empty]; iintro -; isplitl <;> iempintro
  | succ n ih =>
    rw [Steps.bigSep_range_last n fun k => (semVal (dcell c (2 + k)) 0 : sProp (MT nD τ sig Unit (Elt F) ℕ UU ℕ)), Steps.bigSep_range_last n fun k => (semVal (dcell c (14 + k)) 0 : sProp (MT nD τ sig Unit (Elt F) ℕ UU ℕ)),
      show dn (F := F) c (n + 1) = iprop(dn c n ∗ semVal (dcell c (2 + n)) 0 ∗ semVal (dcell c (14 + n)) 0) from rfl]
    iintro ⟨H, Hs, Hr⟩
    ihave H := ih $$ H
    icases H with ⟨H1, H2⟩
    isplitl [H1 Hs]
    · isplitl [H1]; iexact H1; iexact Hs
    isplitl [H2]; iexact H2; iexact Hr

theorem phi1_exit (c : Dev nD) :
    (dats m ρ 0 c).Φ (Fin.last cfg0.N) ⊢ iprop((unscopedSems0 c ∗ outs m ρ c) ∗ Pipeline.ownSems0 osem c ∗ Pipeline.scopedRest cfg0.spec c) := by
  rw [show (dats m ρ 0 c).Φ (Fin.last cfg0.N) = Φ₁ m ρ c from rfl, ← scratch_eq, ownSems0_eq, unscopedSems0_eq,
    Steps.bigSep_range26 (fun k => (semVal (dcell c (2 + k)) 0 : sProp (MT nD τ sig Unit (Elt F) ℕ UU ℕ))),
    show (fun i : Fin 12 => (semVal (dcell c (2 + (12 + i.val))) 0 : sProp (MT nD τ sig Unit (Elt F) ℕ UU ℕ))) = fun i : Fin 12 => semVal (dcell c (14 + i.val)) 0 from
      funext fun i => by rw [← Nat.add_assoc]]
  unfold Φ₁ semOut
  iintro ⟨⟨HB, Hd, H26, H27⟩, Hout, Hscr⟩
  ihave Hd := (dn_sems c 12) $$ Hd
  isplitl [HB Hout]
  · isplitl [HB]; iexact HB; iexact Hout
  isplitl [Hd H26 H27]
  · isplitl [Hd]; iexact Hd; isplitl [H26]; iexact H26; iexact H27
  iexact Hscr

theorem waits (c : Dev nD) : (levAts L lv : sProp (MT nD τ sig Unit (Elt F) ℕ UU ℕ)) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The result -/

/-- The 512 rows device `d` finishes, of the left columns and of the right ones. -/
abbrev grp0 (d : Dev nD) : Rect S2048x2048 := Rect.unit (s := S2048x2048) (k0_off15 d) S512x1024.size (k0_off15_inb d)
abbrev grp1 (d : Dev nD) : Rect S2048x2048 := Rect.unit (s := S2048x2048) (k0_off16 d) S512x1024.size (k0_off16_inb d)

/-- The result at `f`: every device's two groups hold what it finished. -/
def Finished (f : S2048x2048.Idx → Elt F .f32) : Prop :=
  ∀ (d : Dev nD) (j : S512x1024.Idx), f ((grp0 d).emb j) = k0F m ρ d j ∧ f ((grp1 d).emb j) = k1F m ρ d j

theorem off17_15 (c : Dev nD) : k0_off17 c = k0_off15 (p2 c) := by revert c; decide +kernel
theorem off19_16 (c : Dev nD) : k0_off19 c = k0_off16 (p1 c) := by revert c; decide +kernel
theorem off18_8 (c : Dev nD) : ∀ a, k0_off18 c a + k0_off8 c a = k0_off15 c a := by revert c; decide +kernel
theorem off18_2 (c : Dev nD) : ∀ a, k0_off18 c a + k0_off2 c a = k0_off15 (p2 c) a := by revert c; decide +kernel
theorem off20_5 (c : Dev nD) : ∀ a, k0_off20 c a + k0_off5 c a = k0_off16 c a := by revert c; decide +kernel
theorem off20_11 (c : Dev nD) : ∀ a, k0_off20 c a + k0_off11 c a = k0_off16 (p1 c) a := by revert c; decide +kernel
theorem four (c d : Dev nD) : d = c ∨ d = p1 c ∨ d = p2 c ∨ d = p2 (p1 c) := by revert c d; decide
theorem p12 (c : Dev nD) : p1 (p2 c) = p2 (p1 c) := by revert c; decide

/-- A group named at an equal offset, -/
theorem emb_off {off off' : Fin 2 → ℕ} {h h'} (e : off = off') (j : S512x1024.Idx) :
    (Rect.unit (s := S2048x2048) off S512x1024.size h).emb j = (Rect.unit (s := S2048x2048) off' S512x1024.size h').emb j := by
  subst e; rfl
/-- and as part of 1024 rows. -/
theorem emb_emb {o o' o'' : Fin 2 → ℕ} {h h' h''} (e : ∀ a, o a + o' a = o'' a) (j : S512x1024.Idx) :
    (Rect.unit (s := S2048x2048) o S1024x1024.size h).emb ((Rect.unit (s := S1024x1024) o' S512x1024.size h').emb j)
      = (Rect.unit (s := S2048x2048) o'' S512x1024.size h'').emb j := by
  refine funext fun a => Fin.ext ?_
  show o a + 1 * (o' a + 1 * (j a).val) = o'' a + 1 * (j a).val
  have := e a
  omega

/-- What a read of a group, or of 1024 rows, says of the elements. -/
theorem og_at {off : Fin 2 → ℕ} {h} {f : S2048x2048.Idx → Elt F .f32} {X : S512x1024.Idx → Elt F .f32}
    (e : (og off h).view.read (Elt F) f = X) (j : S512x1024.Idx) : f ((Rect.unit (s := S2048x2048) off S512x1024.size h).emb j) = X j :=
  congrFun e j
theorem oh_at {off : Fin 2 → ℕ} {h} {f : S2048x2048.Idx → Elt F .f32} {X : S1024x1024.Idx → Elt F .f32} {Y : S512x1024.Idx → Elt F .f32}
    (e : (oh off h).view.read (Elt F) f = X) {off' : Fin 2 → ℕ} {h'} (hY : part X off' h' = Y) {off'' : Fin 2 → ℕ} {h''}
    (ho : ∀ a, off a + off' a = off'' a) (j : S512x1024.Idx) : f ((Rect.unit (s := S2048x2048) off'' S512x1024.size h'').emb j) = Y j := by
  have h1 : f ((Rect.unit (s := S2048x2048) off S1024x1024.size h).emb ((Rect.unit (s := S1024x1024) off' S512x1024.size h').emb j)) = X _ := congrFun e _
  rw [← hY, ← emb_emb (h := h) (h' := h') ho j]
  exact h1

theorem finished_of (c : Dev nD) {f : S2048x2048.Idx → Elt F .f32}
    (h15 : (g15 (p1 c)).view.read (Elt F) f = k0F m ρ (p1 c)) (h16 : (g16 (p2 c)).view.read (Elt F) f = k1F m ρ (p2 c))
    (h17 : (g17 (p1 c)).view.read (Elt F) f = k0F m ρ (p2 (p1 c))) (h19 : (g19 (p2 c)).view.read (Elt F) f = k1F m ρ (p1 (p2 c)))
    {X₀ X₁ : S1024x1024.Idx → Elt F .f32} (h18 : (g18 c).view.read (Elt F) f = X₀) (h20 : (g20 c).view.read (Elt F) f = X₁)
    (hX₀ : part X₀ (k0_off8 c) (k0_off8_inb c) = k0F m ρ c ∧ part X₀ (k0_off2 c) (k0_off2_inb c) = k0F m ρ (p2 c))
    (hX₁ : part X₁ (k0_off5 c) (k0_off5_inb c) = k1F m ρ c ∧ part X₁ (k0_off11 c) (k0_off11_inb c) = k1F m ρ (p1 c)) :
    Finished m ρ f := by
  intro d j
  rcases four c d with h | h | h | h <;> rw [h]
  · exact ⟨oh_at h18 hX₀.1 (off18_8 c) j, oh_at h20 hX₁.1 (off20_5 c) j⟩
  · exact ⟨og_at h15 j, oh_at h20 hX₁.2 (off20_11 c) j⟩
  · exact ⟨oh_at h18 hX₀.2 (off18_2 c) j, og_at h16 j⟩
  · refine ⟨(congrArg f (emb_off (off17_15 (p1 c)).symm j)).trans (og_at h17 j), ?_⟩
    rw [← p12]
    exact (congrArg f (emb_off (off19_16 (p2 c)).symm j)).trans (og_at h19 j)

theorem outs_read (c : Dev nD) (st : Phys nD τ sig (Elt F)) :
    iprop(outs m ρ c ∗ SI st) ⊢ (iprop(⌜Finished m ρ (st.mem.mem ((c : Thread nD τ).loc main_v1))⌝ ) : sProp (MT nD τ sig Unit (Elt F) ℕ UU ℕ)) := by
  unfold outs
  iintro ⟨⟨H15, H16, H17, H19, ⟨%X₀, %hX₀, H18⟩, %X₁, %hX₁, H20⟩, HS⟩
  ihave %h15 := (Steps.owns_read (c : Thread nD τ) st) $$ [H15 HS]
  · isplitl [H15]; iexact H15; iexact HS
  ihave %h16 := (Steps.owns_read (c : Thread nD τ) st) $$ [H16 HS]
  · isplitl [H16]; iexact H16; iexact HS
  ihave %h17 := (Steps.owns_read (c : Thread nD τ) st) $$ [H17 HS]
  · isplitl [H17]; iexact H17; iexact HS
  ihave %h19 := (Steps.owns_read (c : Thread nD τ) st) $$ [H19 HS]
  · isplitl [H19]; iexact H19; iexact HS
  ihave %h18 := (Steps.owns_read (c : Thread nD τ) st) $$ [H18 HS]
  · isplitl [H18]; iexact H18; iexact HS
  ihave %h20 := (Steps.owns_read (c : Thread nD τ) st) $$ [H20 HS]
  · isplitl [H20]; iexact H20; iexact HS
  ipureintro
  exact finished_of m ρ c h15 h16 h17 h19 h18 h20 hX₀ hX₁

/-! ## The run -/

/-- What the final memory holds: the arguments as they were, the result finished. -/
def Done (s : MemSt nD τ sig (Elt F)) : Prop :=
  ∀ c : Dev nD, s.mem ((c : Thread nD τ).loc main_arg0) = m ((c : Thread nD τ).loc main_arg0)
    ∧ s.mem ((c : Thread nD τ).loc main_arg1) = m ((c : Thread nD τ).loc main_arg1)
    ∧ Finished m ρ (s.mem ((c : Thread nD τ).loc main_v1))

set_option maxRecDepth 8000 in
/-- From any memory with zero counters every weakly fair execution of the program on the four devices terminates without fault,
    the arguments unchanged, the result finished on every device and every semaphore at zero. -/
theorem run_main : θ_run defs (onTc (τ := τ) (main (F := F))) (s₀ m ρ) (fun r => Done m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => iprop(unscopedSems0 c ∗ outs m ρ c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ Finished m ρ (s.mem ((c : Thread nD τ).loc main_v1)))
    (hY := fun c s' => by
      iintro ⟨⟨Hu, Hout⟩, -, HSI⟩
      ihave %hf := (outs_read m ρ c s') $$ [Hout HSI]
      · isplitl [Hout]; iexact Hout; iexact HSI
      imod (Pipeline.unscopedSems0_read (X := unscopedSems0 c) (c := c) fupd_intro s') $$ [Hu HSI] with ⟨%hu, HSI⟩
      · isplitl [Hu]; iexact Hu; iexact HSI
      imodintro
      isplitr; · ipureintro; exact ⟨hu, hf⟩
      iexact HSI)
    (hQ := fun _ h hs => ⟨fun c =>
        ⟨((h c).1 (0 : Fin 2)).trans ((dats (F := F) m ρ 0 c).arrAt_in (0 : Fin 2) rfl _), ((h c).1 (1 : Fin 2)).trans ((dats (F := F) m ρ 0 c).arrAt_in (1 : Fin 2) rfl _), (h c).2.2.2⟩,
      sem_eq_zero hs fun c => (h c).2.2.1⟩)

end Cert.KernelIdealProof

end
-- ==== Proof.KernelIdealValue.lean ====
/-
  The finished result read over the extended reals: each group is the sum over the devices of their block products, which is the
  whole product.
-/
module

public import proofs.«01_k».proof.Proof.KernelIdealLaunch
public import Idealize.ShloMosaic.PureOps.Ideal.Laws
public import Idealize.ShloMosaic.Lib.MatmulPlain
public import Idealize.ShloMosaic.Lib.StackMember
public import Idealize.ShloMosaic.Lib.Pipeline.ValueKit.Acc
public import Idealize.ShloMosaic.Lib.Layout

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

variable (mi : (ℓ : Loc nD τ sig) → Buf (Elt Ideal) ℓ)

/-! ## The block products at an index -/

theorem mm512_at (X : FVec Ideal S512x1024 .f32) (Y : FVec Ideal S1024x1024 .f32) (j : S512x1024.Idx) :
    matmul dot_S512x1024_S1024x1024_S512x1024_1_0_0_1_n_n none X Y (constant S512x1024 .f32 0x00000000#32) j
      = ∑ k : Fin 1024, X (ix2 (j 0) k) * Y (ix2 k (j 1)) := by
  conv_lhs => rw [eq_ix2 j]
  refine (Ideal.matmul_plain_apply none X Y _ (j 0) (j 1)).trans ?_
  refine Eq.trans (congrArg (· + _) ?_) (zero_add _)
  exact Ideal.ofBits_zero_f32

theorem mm1024_at (X Y : FVec Ideal S1024x1024 .f32) (j : S1024x1024.Idx) :
    matmul dot_S1024x1024_S1024x1024_S1024x1024_1_0_0_1_n_n none X Y (constant S1024x1024 .f32 0x00000000#32) j
      = ∑ k : Fin 1024, X (ix2 (j 0) k) * Y (ix2 k (j 1)) := by
  conv_lhs => rw [eq_ix2 j]
  refine (Ideal.matmul_plain_apply none X Y _ (j 0) (j 1)).trans ?_
  refine Eq.trans (congrArg (· + _) ?_) (zero_add _)
  exact Ideal.ofBits_zero_f32

theorem cast_unsq (X : S512x1024.Idx → Elt Ideal .f32) : shapeCast S512x1024 (unsq X) shapeCasts_S1x512x1024_S512x1024 = X :=
  funext fun j => congrArg X (Equiv.symm_apply_apply _ j)

/-- Device `c`'s product of its two blocks. -/
def prod (c : Dev nD) (i : S2048x2048.Idx) : Elt Ideal .f32 :=
  ∑ k : Fin 1024, sA mi ρ c (ix2 (i 0) k) * sB mi ρ c (ix2 k (i 1))

/-- Some rows times some columns of the blocks, at the index those rows and columns have in the whole. -/
theorem prod_of (c : Dev nD) (i : S2048x2048.Idx) {f g : Fin 1024 → Elt Ideal .f32}
    (hf : ∀ k, ∃ x : S2048x1024.Idx, f k = sA mi ρ c x ∧ (x 0).val = (i 0).val ∧ (x 1).val = k.val)
    (hg : ∀ k, ∃ y : S1024x2048.Idx, g k = sB mi ρ c y ∧ (y 0).val = k.val ∧ (y 1).val = (i 1).val) :
    ∑ k : Fin 1024, f k * g k = prod ρ mi c i := by
  refine Finset.sum_congr rfl fun k _ => ?_
  obtain ⟨x, hx, hx0, hx1⟩ := hf k
  obtain ⟨y, hy, hy0, hy1⟩ := hg k
  have ex : x = ix2 (i 0) k := by
    rw [eq_ix2 x]; exact congrArg₂ ix2 (Fin.ext hx0) (Fin.ext hx1)
  have ey : y = ix2 k (i 1) := by
    rw [eq_ix2 y]; exact congrArg₂ ix2 (Fin.ext hy0) (Fin.ext hy1)
  rw [hx, hy, ex, ey]; rfl

theorem rowsA_at (c : Dev nD) {off : Fin 2 → ℕ} {h} (i : S2048x2048.Idx) (a : Fin 512) (h0 : off 0 + a.val = (i 0).val) (h1 : off 1 = 0) (k : Fin 1024) :
    ∃ x : S2048x1024.Idx, rowsA mi ρ c off h (ix2 a k) = sA mi ρ c x ∧ (x 0).val = (i 0).val ∧ (x 1).val = k.val :=
  ⟨_, rfl, by show off 0 + 1 * a.val = _; omega, by show off 1 + 1 * k.val = _; omega⟩
theorem rowsA2_at (c : Dev nD) {off : Fin 2 → ℕ} {h} (i : S2048x2048.Idx) (a : Fin 1024) (h0 : off 0 + a.val = (i 0).val) (h1 : off 1 = 0) (k : Fin 1024) :
    ∃ x : S2048x1024.Idx, rowsA2 mi ρ c off h (ix2 a k) = sA mi ρ c x ∧ (x 0).val = (i 0).val ∧ (x 1).val = k.val :=
  ⟨_, rfl, by show off 0 + 1 * a.val = _; omega, by show off 1 + 1 * k.val = _; omega⟩
theorem colL_at (c : Dev nD) (i : S2048x2048.Idx) (b : Fin 1024) (h : b.val = (i 1).val) (k : Fin 1024) :
    ∃ y : S1024x2048.Idx, colL mi ρ c (ix2 k b) = sB mi ρ c y ∧ (y 0).val = k.val ∧ (y 1).val = (i 1).val :=
  ⟨_, rfl, by show 0 + 1 * k.val = _; omega, by show 0 + 1 * b.val = _; omega⟩
theorem colR_at (c : Dev nD) (i : S2048x2048.Idx) (b : Fin 1024) (h : 1024 + b.val = (i 1).val) (k : Fin 1024) :
    ∃ y : S1024x2048.Idx, colR mi ρ c (ix2 k b) = sB mi ρ c y ∧ (y 0).val = k.val ∧ (y 1).val = (i 1).val :=
  ⟨_, rfl, by show 0 + 1 * k.val = _; omega, by show 1024 + 1 * b.val = _; omega⟩

section Blocks
variable (c : Dev nD) (i : S2048x2048.Idx) (j : S512x1024.Idx)

theorem q0a_at (h0 : k0_off1 c 0 + (j 0).val = (i 0).val) (h1 : k0_off1 c 1 = 0) (hc : (j 1).val = (i 1).val) : q0a mi ρ c j = prod ρ mi c i := by
  unfold q0a k0_pay1; simp only [shapeCast_self]
  exact (mm512_at _ _ j).trans (prod_of ρ mi c i (rowsA_at ρ mi c i _ h0 h1) (colL_at ρ mi c i _ hc))
theorem q0b_at (h0 : k0_off7 c 0 + (j 0).val = (i 0).val) (h1 : k0_off7 c 1 = 0) (hc : (j 1).val = (i 1).val) : q0b mi ρ c j = prod ρ mi c i := by
  unfold q0b k0_pay3; simp only [shapeCast_self]
  exact (mm512_at _ _ j).trans (prod_of ρ mi c i (rowsA_at ρ mi c i _ h0 h1) (colL_at ρ mi c i _ hc))
theorem q1a_at (h0 : k0_off4 c 0 + (j 0).val = (i 0).val) (h1 : k0_off4 c 1 = 0) (hc : 1024 + (j 1).val = (i 1).val) : q1a mi ρ c j = prod ρ mi c i := by
  unfold q1a k0_pay2; simp only [shapeCast_self]
  exact (mm512_at _ _ j).trans (prod_of ρ mi c i (rowsA_at ρ mi c i _ h0 h1) (colR_at ρ mi c i _ hc))
theorem q1b_at (h0 : k0_off10 c 0 + (j 0).val = (i 0).val) (h1 : k0_off10 c 1 = 0) (hc : 1024 + (j 1).val = (i 1).val) : q1b mi ρ c j = prod ρ mi c i := by
  unfold q1b k0_pay5 k0_pay4; simp only [shapeCast_self]
  exact (mm512_at _ _ j).trans (prod_of ρ mi c i (rowsA_at ρ mi c i _ h0 h1) (colR_at ρ mi c i _ hc))
theorem k0i_at {off : Fin 2 → ℕ} {h} (h0 : k0_off13 c 0 + off 0 + (j 0).val = (i 0).val) (h1 : k0_off13 c 1 = 0) (h2 : off 1 = 0) (hc : (j 1).val = (i 1).val) :
    part (k0i mi ρ c) off h j = prod ρ mi c i := by
  unfold part k0i k0_pay6; simp only [shapeCast_self]
  exact (mm1024_at _ _ _).trans (prod_of ρ mi c i
    (rowsA2_at ρ mi c i _ (by show k0_off13 c 0 + (off 0 + 1 * (j 0).val) = _; omega) h1) (colL_at ρ mi c i _ (by show off 1 + 1 * (j 1).val = _; omega)))
theorem k1i_at {off : Fin 2 → ℕ} {h} (h0 : k0_off14 c 0 + off 0 + (j 0).val = (i 0).val) (h1 : k0_off14 c 1 = 0) (h2 : off 1 = 0) (hc : 1024 + (j 1).val = (i 1).val) :
    part (k1i mi ρ c) off h j = prod ρ mi c i := by
  unfold part k1i k0_pay7; simp only [shapeCast_self]
  exact (mm1024_at _ _ _).trans (prod_of ρ mi c i
    (rowsA2_at ρ mi c i _ (by show k0_off14 c 0 + (off 0 + 1 * (j 0).val) = _; omega) h1) (colR_at ρ mi c i _ (by show 1024 + (off 1 + 1 * (j 1).val) = _; omega)))
end Blocks

/-! ## The sums at an index -/

theorem k0_pay8_at (X Y : S512x1024.Idx → Elt Ideal .f32) (j : S512x1024.Idx) : k0_pay8 (F := Ideal) X (unsq Y) j = ((X j : Ideal .f32) + (Y j : Ideal .f32) : Ideal .f32) :=
  congrFun ((shapeCast_self _ _).trans (congrArg (addf (F := Ideal) (φ := .f32) X) (cast_unsq Y))) j
theorem k0_pay9_at (X Y : S512x1024.Idx → Elt Ideal .f32) (j : S512x1024.Idx) : k0_pay9 (F := Ideal) X (unsq Y) j = ((X j : Ideal .f32) + (Y j : Ideal .f32) : Ideal .f32) :=
  congrFun ((shapeCast_self _ _).trans (congrArg (addf (F := Ideal) (φ := .f32) X) (cast_unsq Y))) j
theorem k0_pay10_at (X Y : S512x1024.Idx → Elt Ideal .f32) (j : S512x1024.Idx) : k0_pay10 (F := Ideal) X (unsq Y) j = ((X j : Ideal .f32) + (Y j : Ideal .f32) : Ideal .f32) :=
  congrFun ((shapeCast_self _ _).trans (congrArg (addf (F := Ideal) (φ := .f32) X) (cast_unsq Y))) j
theorem k0_pay11_at (X Y : S512x1024.Idx → Elt Ideal .f32) (j : S512x1024.Idx) : k0_pay11 (F := Ideal) X (unsq Y) j = ((X j : Ideal .f32) + (Y j : Ideal .f32) : Ideal .f32) :=
  congrFun ((shapeCast_self _ _).trans (congrArg (addf (F := Ideal) (φ := .f32) X) (cast_unsq Y))) j
theorem k0_pay13_at (X Y : S512x1024.Idx → Elt Ideal .f32) (j : S512x1024.Idx) : k0_pay13 (k0_pay12 (F := Ideal) X Y) j = ((X j : Ideal .f32) + (Y j : Ideal .f32) : Ideal .f32) :=
  congrFun (shapeCast_self (addf (F := Ideal) (φ := .f32) X Y) _) j
theorem k0_pay14_at (X Y : S512x1024.Idx → Elt Ideal .f32) (j : S512x1024.Idx) : k0_pay14 (F := Ideal) X Y j = ((X j : Ideal .f32) + (Y j : Ideal .f32) : Ideal .f32) :=
  congrFun (shapeCast_self (addf (F := Ideal) (φ := .f32) X Y) _) j

/-! ## The finished groups -/

/-- The rows and columns of the blocks a group is summed from are the group's. -/
theorem rows0 (d : Dev nD) : k0_off13 d 0 + k0_off8 d 0 = k0_off15 d 0 ∧ k0_off7 (p1 d) 0 = k0_off15 d 0
    ∧ k0_off13 (p2 d) 0 + k0_off2 (p2 d) 0 = k0_off15 d 0 ∧ k0_off1 (p1 (p2 d)) 0 = k0_off15 d 0 := by revert d; decide +kernel
theorem rows1 (d : Dev nD) : k0_off14 d 0 + k0_off5 d 0 = k0_off16 d 0 ∧ k0_off10 (p2 d) 0 = k0_off16 d 0
    ∧ k0_off14 (p1 d) 0 + k0_off11 (p1 d) 0 = k0_off16 d 0 ∧ k0_off4 (p2 (p1 d)) 0 = k0_off16 d 0 := by revert d; decide +kernel
theorem cols0 (d : Dev nD) : k0_off13 d 1 = 0 ∧ k0_off8 d 1 = 0 ∧ k0_off7 d 1 = 0 ∧ k0_off2 d 1 = 0 ∧ k0_off1 d 1 = 0 ∧ k0_off15 d 1 = 0 := by
  revert d; decide +kernel
theorem cols1 (d : Dev nD) : k0_off14 d 1 = 0 ∧ k0_off5 d 1 = 0 ∧ k0_off10 d 1 = 0 ∧ k0_off11 d 1 = 0 ∧ k0_off4 d 1 = 0 ∧ k0_off16 d 1 = 1024 := by
  revert d; decide +kernel

/-- The sum over the devices is the sum over a device and its partners. -/
theorem sum_devs (d : Dev nD) (f : Dev nD → Elt Ideal .f32) :
    (f d + f (p1 d) + (f (p2 d) + f (p1 (p2 d))) : Elt Ideal .f32) = ∑ c : Dev nD, f c := by
  have h : (Finset.univ : Finset (Dev nD)) = {d, p1 d, p2 d, p1 (p2 d)} := by revert d; decide
  have h1 : d ∉ ({p1 d, p2 d, p1 (p2 d)} : Finset (Dev nD)) ∧ p1 d ∉ ({p2 d, p1 (p2 d)} : Finset (Dev nD)) ∧ p2 d ∉ ({p1 (p2 d)} : Finset (Dev nD)) := by revert d; decide
  rw [h, Finset.sum_insert h1.1, Finset.sum_insert h1.2.1, Finset.sum_insert h1.2.2, Finset.sum_singleton]
  exact add_assoc _ _ _

theorem k0F_eq (d : Dev nD) (j : S512x1024.Idx) : k0F mi ρ d j
    = (((part (k0i mi ρ d) (k0_off8 d) (k0_off8_inb d) j + q0b mi ρ (p1 d) j : Ideal .f32)) + (part (k0i mi ρ (p2 d)) (k0_off2 (p2 d)) (k0_off2_inb (p2 d)) j + q0a mi ρ (p1 (p2 d)) j : Ideal .f32) : Ideal .f32) := by
  exact (k0_pay13_at _ _ j).trans (congrArg₂ (fun x y : Ideal .f32 => x + y) (k0_pay10_at _ _ j) (k0_pay8_at _ _ j))

theorem k0F_at (d : Dev nD) (j : S512x1024.Idx) : k0F mi ρ d j = ∑ c : Dev nD, prod ρ mi c ((grp0 d).emb j) := by
  have e0 : ((grp0 d).emb j 0).val = k0_off15 d 0 + 1 * (j 0).val := rfl
  have e1 : ((grp0 d).emb j 1).val = k0_off15 d 1 + 1 * (j 1).val := rfl
  obtain ⟨r1, r2, r3, r4⟩ := rows0 d
  have hc : (j 1).val = ((grp0 d).emb j 1).val := by rw [e1, (cols0 d).2.2.2.2.2]; omega
  have hrow : ∀ x, x = k0_off15 d 0 → x + (j 0).val = ((grp0 d).emb j 0).val := fun x hx => by rw [e0, hx, Nat.one_mul]
  clear e0 e1
  generalize (grp0 d).emb j = i at hc hrow ⊢
  rw [← sum_devs d]
  rw [k0F_eq,
    k0i_at ρ mi d i j (hrow _ r1) (cols0 d).1 (cols0 d).2.1 hc,
    q0b_at ρ mi (p1 d) i j (hrow _ r2) (cols0 _).2.2.1 hc,
    k0i_at ρ mi (p2 d) i j (hrow _ r3) (cols0 _).1 (cols0 _).2.2.2.1 hc,
    q0a_at ρ mi (p1 (p2 d)) i j (hrow _ r4) (cols0 _).2.2.2.2.1 hc]

theorem k1F_eq (d : Dev nD) (j : S512x1024.Idx) : k1F mi ρ d j
    = (((part (k1i mi ρ d) (k0_off5 d) (k0_off5_inb d) j + q1b mi ρ (p2 d) j : Ideal .f32)) + (part (k1i mi ρ (p1 d)) (k0_off11 (p1 d)) (k0_off11_inb (p1 d)) j + q1a mi ρ (p2 (p1 d)) j : Ideal .f32) : Ideal .f32) := by
  exact (k0_pay14_at _ _ j).trans (congrArg₂ (fun x y : Ideal .f32 => x + y) (k0_pay11_at _ _ j) (k0_pay9_at _ _ j))

theorem k1F_at (d : Dev nD) (j : S512x1024.Idx) : k1F mi ρ d j = ∑ c : Dev nD, prod ρ mi c ((grp1 d).emb j) := by
  have e0 : ((grp1 d).emb j 0).val = k0_off16 d 0 + 1 * (j 0).val := rfl
  have e1 : ((grp1 d).emb j 1).val = k0_off16 d 1 + 1 * (j 1).val := rfl
  obtain ⟨r1, r2, r3, r4⟩ := rows1 d
  have hc : 1024 + (j 1).val = ((grp1 d).emb j 1).val := by rw [e1, (cols1 d).2.2.2.2.2]; omega
  have hrow : ∀ x, x = k0_off16 d 0 → x + (j 0).val = ((grp1 d).emb j 0).val := fun x hx => by rw [e0, hx, Nat.one_mul]
  clear e0 e1
  generalize (grp1 d).emb j = i at hc hrow ⊢
  rw [← sum_devs d, p12]
  rw [k1F_eq,
    k1i_at ρ mi d i j (hrow _ r1) (cols1 d).1 (cols1 d).2.1 hc,
    q1b_at ρ mi (p2 d) i j (hrow _ r2) (cols1 _).2.2.1 hc,
    k1i_at ρ mi (p1 d) i j (hrow _ r3) (cols1 _).1 (cols1 _).2.2.2.1 hc,
    q1a_at ρ mi (p2 (p1 d)) i j (hrow _ r4) (cols1 _).2.2.2.2.1 hc]
  exact add_add_add_comm _ _ _ _

/-- Every index lies in a group. -/
theorem grp_cover (i : S2048x2048.Idx) : ∃ (d : Dev nD) (j : S512x1024.Idx), i = (grp0 d).emb j ∨ i = (grp1 d).emb j := by
  have hr : ∀ q : Fin 4, ∃ d : Dev nD, k0_off15 d 0 = q.val * 512 := by decide +kernel
  have hr' : ∀ q : Fin 4, ∃ d : Dev nD, k0_off16 d 0 = q.val * 512 := by decide +kernel
  have hi0 : (i 0).val < 2048 := (i 0).isLt
  have hi1 : (i 1).val < 2048 := (i 1).isLt
  by_cases h : (i 1).val < 1024
  · obtain ⟨d, hd⟩ := hr ⟨(i 0).val / 512, by omega⟩
    refine ⟨d, ix2 ⟨(i 0).val % 512, by omega⟩ ⟨(i 1).val, h⟩, Or.inl (funext fun a => Fin.ext ?_)⟩
    match a with
    | ⟨0, _⟩ => show (i 0).val = k0_off15 d 0 + 1 * ((i 0).val % 512); rw [hd]; show (i 0).val = (i 0).val / 512 * 512 + _; omega
    | ⟨1, _⟩ => show (i 1).val = k0_off15 d 1 + 1 * (i 1).val; rw [(cols0 d).2.2.2.2.2]; omega
  · obtain ⟨d, hd⟩ := hr' ⟨(i 0).val / 512, by omega⟩
    refine ⟨d, ix2 ⟨(i 0).val % 512, by omega⟩ ⟨(i 1).val - 1024, by omega⟩, Or.inr (funext fun a => Fin.ext ?_)⟩
    match a with
    | ⟨0, _⟩ => show (i 0).val = k0_off16 d 0 + 1 * ((i 0).val % 512); rw [hd]; show (i 0).val = (i 0).val / 512 * 512 + _; omega
    | ⟨1, _⟩ => show (i 1).val = k0_off16 d 1 + 1 * ((i 1).val - 1024); rw [(cols1 d).2.2.2.2.2]; omega

/-- A finished result is the sum of the devices' products. -/
theorem finished_sum {f : S2048x2048.Idx → Elt Ideal .f32} (h : Finished mi ρ f) (i : S2048x2048.Idx) : f i = ∑ c : Dev nD, prod ρ mi c i := by
  obtain ⟨d, j, rfl | rfl⟩ := grp_cover i
  · exact (h d j).1.trans (k0F_at ρ mi d j)
  · exact (h d j).2.trans (k1F_at ρ mi d j)

/-! ## The whole product -/

theorem sA_eq (c : Dev nD) : sA mi ρ c = mi ((c : Thread nD τ).loc main_arg0) := by
  funext j
  refine congrArg (mi ((c : Thread nD τ).loc main_arg0)) (funext fun a => Fin.ext ?_)
  show 0 * _ + 1 * (j a).val = (j a).val
  omega
theorem sB_eq (c : Dev nD) : sB mi ρ c = mi ((c : Thread nD τ).loc main_arg1) := by
  funext j
  refine congrArg (mi ((c : Thread nD τ).loc main_arg1)) (funext fun a => Fin.ext ?_)
  show 0 * _ + 1 * (j a).val = (j a).val
  omega

/-- With the devices' blocks those of two whole arrays, a finished result is the arrays' product. -/
theorem finished_eq (A : (⟨2, ![2048, 4096]⟩ : Shape).Idx → Elt Ideal .f32) (B : (⟨2, ![4096, 2048]⟩ : Shape).Idx → Elt Ideal .f32)
    (hA : ∀ c : Dev nD, mi ((c : Thread nD τ).loc main_arg0) = Layout.block ⟨2, ![2048, 1024]⟩ ⟨2, ![2048, 4096]⟩ 1 4 c A)
    (hB : ∀ c : Dev nD, mi ((c : Thread nD τ).loc main_arg1) = Layout.block ⟨2, ![1024, 2048]⟩ ⟨2, ![4096, 2048]⟩ 0 4 c B)
    {f : S2048x2048.Idx → Elt Ideal .f32} (h : Finished mi ρ f) (w)
    (i : S2048x2048.Idx) : f i = Host.dotGeneral (F := Ideal) (φ₁ := .f32) (φ₂ := .f32) (⟨[1], [0], [0], [1], [], [], w⟩ : DotDims ⟨2, ![2048, 4096]⟩ ⟨2, ![4096, 2048]⟩ ⟨2, ![2048, 2048]⟩) none
      (A : FVec Ideal ⟨2, ![2048, 4096]⟩ .f32) (B : FVec Ideal ⟨2, ![4096, 2048]⟩ .f32) i := by
  have hd := StackMember.dotGeneral_plain_apply (φ₁ := .f32) (φ₂ := .f32) none (A : FVec Ideal ⟨2, ![2048, 4096]⟩ .f32) (B : FVec Ideal ⟨2, ![4096, 2048]⟩ .f32) (i 0) (i 1)
  have hi := congrArg (Host.dotGeneral (F := Ideal) (φ₁ := .f32) (φ₂ := .f32) (DotDims.plain 2048 4096 2048) none A B) (eq_ix2 i).symm
  refine (finished_sum ρ mi h i).trans (Eq.trans ?_ (hd.symm.trans hi))
  refine Fin.sum_mul_add_congr (S := 4) (n := 1024) fun s k hl => ?_
  rw [sA_eq, sB_eq, hA s, hB s]
  refine congrArg₂ (fun x y : Elt Ideal .f32 => x * y) (congrArg A (funext fun a => Fin.ext ?_)) (congrArg B (funext fun a => Fin.ext ?_))
  · match a with
    | ⟨0, _⟩ => rfl
    | ⟨1, _⟩ => rfl
  · match a with
    | ⟨0, _⟩ => rfl
    | ⟨1, _⟩ => rfl

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealValue
public import Idealize.ShloMosaic.Adequacy
public import Idealize.ShloMosaic.Init

@[expose] public section

noncomputable section

namespace Cert.Proof

open Idealize.ShloMosaic Idealize.SL.Sem

/-- The program terminates with its arguments unchanged and every counter at zero. -/
theorem frame_p : Cert.quiescent_Kernel := fun m ρ _ =>
  (θ_run Cert.Kernel.defs _ _).mono (fun _ h => ⟨fun c => ⟨(h.1 c).1, (h.1 c).2.1⟩, h.2⟩) (Cert.KernelProof.run_main (F := Bits) m ρ)

/-- So does its reading over the extended reals, -/
theorem frame_pi : Cert.quiescent_KernelIdeal := fun m ρ _ =>
  (θ_run Cert.KernelIdeal.defs _ _).mono (fun _ h => ⟨fun c => ⟨(h.1 c).1, (h.1 c).2.1⟩, h.2⟩) (Cert.KernelIdealProof.run_main (F := Ideal) m ρ)

/-- and the reference, which declares no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Every device ends with the product of the two whole arrays, which is the reference's result. -/
theorem algebraic : Cert.algebraic_KernelIdeal_ReferenceIdeal := by
  intro m ρ m' ρ' _ hag
  refine ⟨Host.dotGeneral (F := Ideal) (φ₁ := .f32) (φ₂ := .f32) Cert.ReferenceIdeal.dot_S2048x4096_S4096x2048_S2048x2048_1_0_0_1_n_n none
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono (fun _ h c => ⟨funext fun i =>
        Cert.KernelIdealProof.finished_eq ρ m _ _ (fun c => (hag c).1) (fun c => (hag c).2) (h.1 c).2.2 _ i, (h.1 c).1, (h.1 c).2.1⟩)
      (Cert.KernelIdealProof.run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_p, frame_pi, frame_ri, trivial, algebraic⟩

end Cert.Proof

end
